-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_state_below_inf [hPre_state_below_inf : Cert.Pre_state_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_state_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_state_below_inf [hPre_state_below_inf : Cert.Pre_state_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_state_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_state_below_inf [hKernelIdeal : Cert.KernelIdeal.Facts] [hPre_state_below_inf : Cert.Pre_state_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_state_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_state_below_inf [hReferenceIdeal : Cert.ReferenceIdeal.Facts] [hPre_state_below_inf : Cert.Pre_state_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_state_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_state_below_inf [hKernelIdeal : Cert.KernelIdeal.Facts] [hReferenceIdeal : Cert.ReferenceIdeal.Facts] [hPre_state_below_inf : Cert.Pre_state_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_state_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_state_below_inf : Cert.Pre_state_below_inf.Facts),
    quiescent_Kernel (hKernel := hKernel)
    ∧ quiescent_KernelIdeal (hKernelIdeal := hKernelIdeal)
    ∧ quiescent_KernelIdeal_pre_state_below_inf (hKernelIdeal := hKernelIdeal) (hPre_state_below_inf := hPre_state_below_inf)
    ∧ quiescent_ReferenceIdeal (hReferenceIdeal := hReferenceIdeal)
    ∧ quiescent_ReferenceIdeal_pre_state_below_inf (hReferenceIdeal := hReferenceIdeal) (hPre_state_below_inf := hPre_state_below_inf)
    ∧ preserves_Kernel_KernelIdeal
    ∧ algebraic_KernelIdeal_ReferenceIdeal_pre_state_below_inf (hKernelIdeal := hKernelIdeal) (hReferenceIdeal := hReferenceIdeal) (hPre_state_below_inf := hPre_state_below_inf)
-- ==== Pre_state_below_inf.lean ====
abbrev S8x1024x128 : Shape := ⟨3, ![8, 1024, 128]⟩
abbrev S8x1x4096 : Shape := ⟨3, ![8, 1, 4096]⟩
abbrev S64x128 : Shape := ⟨2, ![64, 128]⟩
abbrev S128 : Shape := ⟨1, ![128]⟩
abbrev S64x64 : Shape := ⟨2, ![64, 64]⟩
abbrev S64 : Shape := ⟨1, ![64]⟩
abbrev S_ : Shape := ⟨0, ![]⟩

class Facts : Prop where
  bcast_S_S8x1x4096 : S_.BroadcastsInDim S8x1x4096 (![] : Fin 0 → Fin S8x1x4096.rank)
  reducesTo_S8x1x4096_S_d0_1_2 : S8x1x4096.ReducesTo [0, 1, 2] S_
  h_S_ : 0 < S_.numel

variable [Facts]

def fn {F : FTy → Type} [FloatOps F] (main_arg0 : FVec F S8x1024x128 .f32) (main_arg1 : FVec F S8x1x4096 .f32) (main_arg2 : FVec F S64x128 .f32) (main_arg3 : FVec F S64x128 .f32) (main_arg4 : FVec F S64x128 .f32) (main_arg5 : FVec F S128 .f32) (main_arg6 : FVec F S128 .f32) (main_arg7 : FVec F S64x64 .f32) (main_arg8 : FVec F S64 .f32) (main_arg9 : FVec F S64x64 .f32) (main_arg10 : FVec F S64 .f32) (main_arg11 : FVec F S64x128 .f32) (main_arg12 : FVec F S64 .f32) : IVec S_ 1 :=
  let main_cst : FVec F S_ .f32 := constant S_ .f32 0x7F800000#32
  let main_v0 : FVec F S8x1x4096 .f32 := broadcastInDim S8x1x4096 ![] bcast_S_S8x1x4096 main_cst
  let main_v1 : IVec S8x1x4096 1 := cmpf .olt main_arg1 main_v0
  let main_c : IVec S_ 1 := constantI S_ 1 1#1
  let main_v2 : IVec S_ 1 := (fun x v => Host.reduce IntOp.andi x v reducesTo_S8x1x4096_S_d0_1_2 h_S_) main_v1 main_c
  main_v2
-- ==== Kernel.lean ====
abbrev S8x1024x128 : Shape := ⟨3, ![8, 1024, 128]⟩
abbrev S8x1x4096 : Shape := ⟨3, ![8, 1, 4096]⟩
abbrev S64x128 : Shape := ⟨2, ![64, 128]⟩
abbrev S128 : Shape := ⟨1, ![128]⟩
abbrev S64x64 : Shape := ⟨2, ![64, 64]⟩
abbrev S64 : Shape := ⟨1, ![64]⟩
abbrev S4096x64 : Shape := ⟨2, ![4096, 64]⟩
abbrev S_ : Shape := ⟨0, ![]⟩
abbrev S4096x128 : Shape := ⟨2, ![4096, 128]⟩
abbrev S128x128 : Shape := ⟨2, ![128, 128]⟩
abbrev S256x256 : Shape := ⟨2, ![256, 256]⟩
abbrev S8x64x64 : Shape := ⟨3, ![8, 64, 64]⟩
abbrev S128x1 : Shape := ⟨2, ![128, 1]⟩
abbrev S64x1 : Shape := ⟨2, ![64, 1]⟩
abbrev S448x128 : Shape := ⟨2, ![448, 128]⟩
abbrev S8x64x1024 : Shape := ⟨3, ![8, 64, 1024]⟩
abbrev S8x64x64x1024 : Shape := ⟨4, ![8, 64, 64, 1024]⟩
abbrev S4x256x128 : Shape := ⟨3, ![4, 256, 128]⟩
abbrev S4x64x64 : Shape := ⟨3, ![4, 64, 64]⟩
abbrev S4x64x256 : Shape := ⟨3, ![4, 64, 256]⟩
abbrev S4x64x64x256 : Shape := ⟨4, ![4, 64, 64, 256]⟩
abbrev S4x4096x128 : Shape := ⟨3, ![4, 4096, 128]⟩
abbrev S1x64x64 : Shape := ⟨3, ![1, 64, 64]⟩
abbrev S1x4096x128 : Shape := ⟨3, ![1, 4096, 128]⟩
abbrev S1x256x128 : Shape := ⟨3, ![1, 256, 128]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S64x256 : Shape := ⟨2, ![64, 256]⟩
abbrev S64x1x256 : Shape := ⟨3, ![64, 1, 256]⟩
abbrev S64x64x256 : Shape := ⟨3, ![64, 64, 256]⟩
abbrev S4096x256 : Shape := ⟨2, ![4096, 256]⟩
abbrev S4096x1 : Shape := ⟨2, ![4096, 1]⟩
abbrev S1x64x64x256 : Shape := ⟨4, ![1, 64, 64, 256]⟩
abbrev S1x64x256 : Shape := ⟨3, ![1, 64, 256]⟩
abbrev S8x1024x64 : Shape := ⟨3, ![8, 1024, 64]⟩
abbrev S8x1024x64x64 : Shape := ⟨4, ![8, 1024, 64, 64]⟩

abbrev nBuf : Space → Nat
  | .hbm => 72
  | .vmem => 22
  | .smem => 0
  | _ => 0

abbrev bufTy : (tb : Table) → Fin (tcTables nBuf tb) → BufTy
  | .hbm, ⟨0, _⟩ => ⟨S8x1024x128, .f32⟩
  | .hbm, ⟨1, _⟩ => ⟨S8x1x4096, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x128, .f32⟩
  | .hbm, ⟨12, _⟩ => ⟨S64, .f32⟩
  | .hbm, ⟨13, _⟩ => ⟨S4096x64, .i32⟩
  | .hbm, ⟨14, _⟩ => ⟨S_, .i32⟩
  | .hbm, ⟨15, _⟩ => ⟨S4096x64, .i32⟩
  | .hbm, ⟨16, _⟩ => ⟨S4096x64, .i32⟩
  | .hbm, ⟨17, _⟩ => ⟨S4096x64, .i32⟩
  | .hbm, ⟨18, _⟩ => ⟨S4096x64, .i1⟩
  | .hbm, ⟨19, _⟩ => ⟨S_, .f32⟩
  | .hbm, ⟨20, _⟩ => ⟨S4096x64, .f32⟩
  | .hbm, ⟨21, _⟩ => ⟨S_, .f32⟩
  | .hbm, ⟨22, _⟩ => ⟨S4096x64, .f32⟩
  | .hbm, ⟨23, _⟩ => ⟨S4096x64, .f32⟩
  | .hbm, ⟨24, _⟩ => ⟨S4096x64, .bf16⟩
  | .hbm, ⟨25, _⟩ => ⟨S4096x128, .i32⟩
  | .hbm, ⟨26, _⟩ => ⟨S_, .i32⟩
  | .hbm, ⟨27, _⟩ => ⟨S4096x128, .i32⟩
  | .hbm, ⟨28, _⟩ => ⟨S4096x128, .i32⟩
  | .hbm, ⟨29, _⟩ => ⟨S4096x128, .i32⟩
  | .hbm, ⟨30, _⟩ => ⟨S_, .i32⟩
  | .hbm, ⟨31, _⟩ => ⟨S4096x128, .i32⟩
  | .hbm, ⟨32, _⟩ => ⟨S4096x128, .i32⟩
  | .hbm, ⟨33, _⟩ => ⟨S4096x128, .i1⟩
  | .hbm, ⟨34, _⟩ => ⟨S_, .f32⟩
  | .hbm, ⟨35, _⟩ => ⟨S4096x128, .f32⟩
  | .hbm, ⟨36, _⟩ => ⟨S_, .f32⟩
  | .hbm, ⟨37, _⟩ => ⟨S4096x128, .f32⟩
  | .hbm, ⟨38, _⟩ => ⟨S4096x128, .f32⟩
  | .hbm, ⟨39, _⟩ => ⟨S4096x128, .bf16⟩
  | .hbm, ⟨40, _⟩ => ⟨S_, .bf16⟩
  | .hbm, ⟨41, _⟩ => ⟨S128x128, .bf16⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S_, .f32⟩
  | .hbm, ⟨46, _⟩ => ⟨S256x256, .f32⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S256x256, .bf16⟩
  | .hbm, ⟨51, _⟩ => ⟨S_, .f32⟩
  | .hbm, ⟨52, _⟩ => ⟨S256x256, .f32⟩
  | .hbm, ⟨53, _⟩ => ⟨S_, .f32⟩
  | .hbm, ⟨54, _⟩ => ⟨S256x256, .f32⟩
  | .hbm, ⟨55, _⟩ => ⟨S256x256, .f32⟩
  | .hbm, ⟨56, _⟩ => ⟨S8x64x64, .f32⟩
  | .hbm, ⟨57, _⟩ => ⟨S128x1, .f32⟩
  | .hbm, ⟨58, _⟩ => ⟨S128x128, .f32⟩
  | .hbm, ⟨59, _⟩ => ⟨S128x1, .f32⟩
  | .hbm, ⟨60, _⟩ => ⟨S128x128, .f32⟩
  | .hbm, ⟨61, _⟩ => ⟨S64x1, .f32⟩
  | .hbm, ⟨62, _⟩ => ⟨S64x128, .f32⟩
  | .hbm, ⟨63, _⟩ => ⟨S64x1, .f32⟩
  | .hbm, ⟨64, _⟩ => ⟨S64x128, .f32⟩
  | .hbm, ⟨65, _⟩ => ⟨S64x1, .f32⟩
  | .hbm, ⟨66, _⟩ => ⟨S64x128, .f32⟩
  | .hbm, ⟨67, _⟩ => ⟨S448x128, .f32⟩
  | .hbm, ⟨68, _⟩ => ⟨S8x64x1024, .f32⟩
  | .hbm, ⟨69, _⟩ => ⟨S8x64x64x1024, .f32⟩
  | .hbm, ⟨70, _⟩ => ⟨S8x1024x64, .f32⟩
  | .hbm, ⟨71, _⟩ => ⟨S8x1024x64x64, .f32⟩
  | .local _ .vmem, ⟨0, _⟩ => ⟨S4x256x128, .f32⟩
  | .local _ .vmem, ⟨1, _⟩ => ⟨S4x256x128, .f32⟩
  | .local _ .vmem, ⟨2, _⟩ => ⟨S4x64x64, .f32⟩
  | .local _ .vmem, ⟨3, _⟩ => ⟨S4x64x64, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S448x128, .f32⟩
  | .local _ .vmem, ⟨8, _⟩ => ⟨S64x64, .f32⟩
  | .local _ .vmem, ⟨9, _⟩ => ⟨S64x64, .f32⟩
  | .local _ .vmem, ⟨10, _⟩ => ⟨S64x128, .f32⟩
  | .local _ .vmem, ⟨11, _⟩ => ⟨S4096x64, .bf16⟩
  | .local _ .vmem, ⟨12, _⟩ => ⟨S4096x128, .bf16⟩
  | .local _ .vmem, ⟨13, _⟩ => ⟨S128x128, .bf16⟩
  | .local _ .vmem, ⟨14, _⟩ => ⟨S256x256, .bf16⟩
  | .local _ .vmem, ⟨15, _⟩ => ⟨S256x256, .f32⟩
  | .local _ .vmem, ⟨16, _⟩ => ⟨S4x64x256, .f32⟩
  | .local _ .vmem, ⟨17, _⟩ => ⟨S4x64x256, .f32⟩
  | .local _ .vmem, ⟨18, _⟩ => ⟨S4x64x64x256, .f32⟩
  | .local _ .vmem, ⟨19, _⟩ => ⟨S4x64x64x256, .f32⟩
  | .local _ .vmem, ⟨20, _⟩ => ⟨S4x4096x128, .f32⟩
  | .local _ .vmem, ⟨21, _⟩ => ⟨S4x64x64, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_8 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43_0 : Ref sig .tc := ⟨.hbm, 68, rfl⟩
abbrev main_v43_1 : Ref sig .tc := ⟨.hbm, 69, rfl⟩
abbrev main_v44 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S448x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4096x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S4x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S4x64x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S8x1024x128 : Shape := ⟨3, ![8, 1024, 128]⟩
abbrev S8x1x4096 : Shape := ⟨3, ![8, 1, 4096]⟩
abbrev S64x128 : Shape := ⟨2, ![64, 128]⟩
abbrev S128 : Shape := ⟨1, ![128]⟩
abbrev S64x64 : Shape := ⟨2, ![64, 64]⟩
abbrev S64 : Shape := ⟨1, ![64]⟩
abbrev S_ : Shape := ⟨0, ![]⟩
abbrev S8x1024 : Shape := ⟨2, ![8, 1024]⟩
abbrev S8x1024x1 : Shape := ⟨3, ![8, 1024, 1]⟩
abbrev S1x1x128 : Shape := ⟨3, ![1, 1, 128]⟩
abbrev S8x1024x64 : Shape := ⟨3, ![8, 1024, 64]⟩
abbrev S8x1024x64x1 : Shape := ⟨4, ![8, 1024, 64, 1]⟩
abbrev S8x1024x1x64 : Shape := ⟨4, ![8, 1024, 1, 64]⟩
abbrev S8x1024x64x64 : Shape := ⟨4, ![8, 1024, 64, 64]⟩
abbrev S8x1x64x64 : Shape := ⟨4, ![8, 1, 64, 64]⟩
abbrev S1x1x64 : Shape := ⟨3, ![1, 1, 64]⟩

abbrev nBuf : Space → Nat
  | .hbm => 113
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x1x4096, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x128, .f32⟩
  | .hbm, ⟨12, _⟩ => ⟨S64, .f32⟩
  | .hbm, ⟨13, _⟩ => ⟨S_, .f32⟩
  | .hbm, ⟨14, _⟩ => ⟨S8x1024, .f32⟩
  | .hbm, ⟨15, _⟩ => ⟨S8x1024x1, .f32⟩
  | .hbm, ⟨16, _⟩ => ⟨S_, .f32⟩
  | .hbm, ⟨17, _⟩ => ⟨S8x1024x1, .f32⟩
  | .hbm, ⟨18, _⟩ => ⟨S8x1024x1, .f32⟩
  | .hbm, ⟨19, _⟩ => ⟨S_, .i32⟩
  | .hbm, ⟨20, _⟩ => ⟨S_, .f32⟩
  | .hbm, ⟨21, _⟩ => ⟨S8x1024, .f32⟩
  | .hbm, ⟨22, _⟩ => ⟨S8x1024x1, .f32⟩
  | .hbm, ⟨23, _⟩ => ⟨S_, .f32⟩
  | .hbm, ⟨24, _⟩ => ⟨S8x1024x1, .f32⟩
  | .hbm, ⟨25, _⟩ => ⟨S8x1024x1, .f32⟩
  | .hbm, ⟨26, _⟩ => ⟨S8x1024x128, .f32⟩
  | .hbm, ⟨27, _⟩ => ⟨S8x1024x128, .f32⟩
  | .hbm, ⟨28, _⟩ => ⟨S8x1024x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x1024, .f32⟩
  | .hbm, ⟨34, _⟩ => ⟨S8x1024x1, .f32⟩
  | .hbm, ⟨35, _⟩ => ⟨S8x1024x1, .f32⟩
  | .hbm, ⟨36, _⟩ => ⟨S8x1024x1, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S8x1024x1, .f32⟩
  | .hbm, ⟨42, _⟩ => ⟨S8x1024x1, .f32⟩
  | .hbm, ⟨43, _⟩ => ⟨S8x1024x128, .f32⟩
  | .hbm, ⟨44, _⟩ => ⟨S8x1024x128, .f32⟩
  | .hbm, ⟨45, _⟩ => ⟨S_, .f32⟩
  | .hbm, ⟨46, _⟩ => ⟨S8x1024x1, .f32⟩
  | .hbm, ⟨47, _⟩ => ⟨S8x1024x1, .f32⟩
  | .hbm, ⟨48, _⟩ => ⟨S8x1024x1, .f32⟩
  | .hbm, ⟨49, _⟩ => ⟨S8x1024x128, .f32⟩
  | .hbm, ⟨50, _⟩ => ⟨S8x1024x128, .f32⟩
  | .hbm, ⟨51, _⟩ => ⟨S1x1x128, .f32⟩
  | .hbm, ⟨52, _⟩ => ⟨S8x1024x128, .f32⟩
  | .hbm, ⟨53, _⟩ => ⟨S8x1024x128, .f32⟩
  | .hbm, ⟨54, _⟩ => ⟨S1x1x128, .f32⟩
  | .hbm, ⟨55, _⟩ => ⟨S8x1024x128, .f32⟩
  | .hbm, ⟨56, _⟩ => ⟨S8x1024x128, .f32⟩
  | .hbm, ⟨57, _⟩ => ⟨S8x1024x64, .f32⟩
  | .hbm, ⟨58, _⟩ => ⟨S_, .f32⟩
  | .hbm, ⟨59, _⟩ => ⟨S8x1024x64, .f32⟩
  | .hbm, ⟨60, _⟩ => ⟨S8x1024x64, .f32⟩
  | .hbm, ⟨61, _⟩ => ⟨S8x1024x64, .f32⟩
  | .hbm, ⟨62, _⟩ => ⟨S_, .f32⟩
  | .hbm, ⟨63, _⟩ => ⟨S8x1024x64, .f32⟩
  | .hbm, ⟨64, _⟩ => ⟨S8x1024x64, .f32⟩
  | .hbm, ⟨65, _⟩ => ⟨S8x1024x64, .f32⟩
  | .hbm, ⟨66, _⟩ => ⟨S_, .f32⟩
  | .hbm, ⟨67, _⟩ => ⟨S8x1024, .f32⟩
  | .hbm, ⟨68, _⟩ => ⟨S8x1024x1, .f32⟩
  | .hbm, ⟨69, _⟩ => ⟨S_, .f32⟩
  | .hbm, ⟨70, _⟩ => ⟨S8x1024x1, .f32⟩
  | .hbm, ⟨71, _⟩ => ⟨S8x1024x1, .f32⟩
  | .hbm, ⟨72, _⟩ => ⟨S8x1024x64, .f32⟩
  | .hbm, ⟨73, _⟩ => ⟨S8x1024x64, .f32⟩
  | .hbm, ⟨74, _⟩ => ⟨S_, .f32⟩
  | .hbm, ⟨75, _⟩ => ⟨S8x1024, .f32⟩
  | .hbm, ⟨76, _⟩ => ⟨S8x1024x1, .f32⟩
  | .hbm, ⟨77, _⟩ => ⟨S_, .f32⟩
  | .hbm, ⟨78, _⟩ => ⟨S8x1024x1, .f32⟩
  | .hbm, ⟨79, _⟩ => ⟨S8x1024x1, .f32⟩
  | .hbm, ⟨80, _⟩ => ⟨S8x1024x64, .f32⟩
  | .hbm, ⟨81, _⟩ => ⟨S8x1024x64, .f32⟩
  | .hbm, ⟨82, _⟩ => ⟨S8x1024x64x1, .f32⟩
  | .hbm, ⟨83, _⟩ => ⟨S8x1024x1x64, .f32⟩
  | .hbm, ⟨84, _⟩ => ⟨S8x1024x64x64, .f32⟩
  | .hbm, ⟨85, _⟩ => ⟨S8x1024x64x64, .f32⟩
  | .hbm, ⟨86, _⟩ => ⟨S8x1024x64x64, .f32⟩
  | .hbm, ⟨87, _⟩ => ⟨S_, .f32⟩
  | .hbm, ⟨88, _⟩ => ⟨S_, .f32⟩
  | .hbm, ⟨89, _⟩ => ⟨S8x1024x64x64, .f32⟩
  | .hbm, ⟨90, _⟩ => ⟨S8x1x64x64, .f32⟩
  | .hbm, ⟨91, _⟩ => ⟨S8x1024x64x64, .f32⟩
  | .hbm, ⟨92, _⟩ => ⟨S8x1024x64x64, .f32⟩
  | .hbm, ⟨93, _⟩ => ⟨S8x1024x64, .f32⟩
  | .hbm, ⟨94, _⟩ => ⟨S8x1024x64, .f32⟩
  | .hbm, ⟨95, _⟩ => ⟨S1x1x64, .f32⟩
  | .hbm, ⟨96, _⟩ => ⟨S8x1024x64, .f32⟩
  | .hbm, ⟨97, _⟩ => ⟨S8x1024x64, .f32⟩
  | .hbm, ⟨98, _⟩ => ⟨S_, .f32⟩
  | .hbm, ⟨99, _⟩ => ⟨S8x1024x64, .f32⟩
  | .hbm, ⟨100, _⟩ => ⟨S8x1024x64, .f32⟩
  | .hbm, ⟨101, _⟩ => ⟨S8x1024x64, .f32⟩
  | .hbm, ⟨102, _⟩ => ⟨S1x1x64, .f32⟩
  | .hbm, ⟨103, _⟩ => ⟨S8x1024x64, .f32⟩
  | .hbm, ⟨104, _⟩ => ⟨S8x1024x64, .f32⟩
  | .hbm, ⟨105, _⟩ => ⟨S_, .f32⟩
  | .hbm, ⟨106, _⟩ => ⟨S8x1024x64, .f32⟩
  | .hbm, ⟨107, _⟩ => ⟨S8x1024x64, .f32⟩
  | .hbm, ⟨108, _⟩ => ⟨S8x1024x64, .f32⟩
  | .hbm, ⟨109, _⟩ => ⟨S8x1024x64, .f32⟩
  | .hbm, ⟨110, _⟩ => ⟨S1x1x64, .f32⟩
  | .hbm, ⟨111, _⟩ => ⟨S8x1024x64, .f32⟩
  | .hbm, ⟨112, _⟩ => ⟨S8x1024x64, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst_1 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_call1_cst : Ref sig .tc := ⟨.hbm, 58, rfl⟩
abbrev main_call1_v0 : Ref sig .tc := ⟨.hbm, 59, rfl⟩
abbrev main_v19 : Ref sig .tc := ⟨.hbm, 60, rfl⟩
abbrev main_v20 : Ref sig .tc := ⟨.hbm, 61, rfl⟩
abbrev main_call2_cst : Ref sig .tc := ⟨.hbm, 62, rfl⟩
abbrev main_call2_v0 : Ref sig .tc := ⟨.hbm, 63, rfl⟩
abbrev main_v21 : Ref sig .tc := ⟨.hbm, 64, rfl⟩
abbrev main_v22 : Ref sig .tc := ⟨.hbm, 65, rfl⟩
abbrev main_cst_2 : Ref sig .tc := ⟨.hbm, 66, rfl⟩
abbrev main_v23 : Ref sig .tc := ⟨.hbm, 67, rfl⟩
abbrev main_v24 : Ref sig .tc := ⟨.hbm, 68, rfl⟩
abbrev main_cst_3 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_4 : Ref sig .tc := ⟨.hbm, 74, rfl⟩
abbrev main_v29 : Ref sig .tc := ⟨.hbm, 75, rfl⟩
abbrev main_v30 : Ref sig .tc := ⟨.hbm, 76, rfl⟩
abbrev main_cst_5 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_call3_call0_cst : Ref sig .tc := ⟨.hbm, 87, rfl⟩
abbrev main_call3_call0_v0 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_call4_cst : Ref sig .tc := ⟨.hbm, 98, rfl⟩
abbrev main_call4_v0 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_call5_cst : Ref sig .tc := ⟨.hbm, 105, rfl⟩
abbrev main_call5_v0 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩

abbrev nD : Nat := 1
abbrev τ : Topo := Topo.v7x

variable {F : FTy → Type} [FloatOps F]
-- ==== Proof.Step.lean ====
module

public import proofs.«01_k».proof.Proof.Gen.KernelIdeal.Frame
public import Idealize.ShloMosaic.Lib.Pipeline.Value
public import Idealize.ShloMosaic.Lib.ValueIdx
public import Idealize.ShloMosaic.Lib.Tactic

@[expose] public section

set_option maxRecDepth 16384

noncomputable section

open Idealize.ShloMosaic Idealize.ShloMosaic.TcCoe Idealize.SL.Sem Idealize.ShloMosaic.ValueIdx

/-! ## Pieces that are whole planes

Every store of the kernel fills one plane `g` of a block whose first axis runs over the four batches. What a list of
such pieces leaves at an index of plane `g` is the payload of the first piece of the list that fills plane `g`. -/

namespace Cert.Plane

variable {Val : EltTy → Type} [∀ e, Nonempty (Val e)] {e : EltTy}

/-- Plane `g` of a block with three axes. -/
def pl3 {α : Type} {a b : ℕ} (X : (⟨3, ![4, a, b]⟩ : Shape).Idx → α) (g : Fin 4) : (⟨3, ![1, a, b]⟩ : Shape).Idx → α :=
  fun j => X (ix3 g (j 1) (j 2))

theorem eq_ix3_one {a b : ℕ} (x : (⟨3, ![1, a, b]⟩ : Shape).Idx) : ∃ (i : Fin a) (j : Fin b), x = ix3 (0 : Fin 1) i j :=
  ⟨x 1, x 2, (eq_ix3 x).trans (congrArg (fun z : Fin 1 => ix3 z (x 1 : Fin a) (x 2 : Fin b)) (Subsingleton.elim (α := Fin 1) _ _))⟩

theorem emb3 {a b n : ℕ} (hn : n < 4) (inb : ∀ x, (![n, 0, 0] : Fin 3 → ℕ) x + (![1, a, b] : Fin 3 → ℕ) x ≤ (![4, a, b] : Fin 3 → ℕ) x)
    (i : Fin a) (j : Fin b) :
    (Rect.unit (s := ⟨3, ![4, a, b]⟩) ![n, 0, 0] ![1, a, b] inb).emb (ix3 (0 : Fin 1) i j) = ix3 ⟨n, hn⟩ i j := by
  funext x
  match x with
  | ⟨0, _⟩ => exact Fin.ext (show n + 1 * 0 = n by omega)
  | ⟨1, _⟩ => exact Fin.ext (show 0 + 1 * i.val = i.val by omega)
  | ⟨2, _⟩ => exact Fin.ext (show 0 + 1 * j.val = j.val by omega)

theorem canon_hit3 {a b n : ℕ} (hn : n < 4) (inb : ∀ x, (![n, 0, 0] : Fin 3 → ℕ) x + (![1, a, b] : Fin 3 → ℕ) x ≤ (![4, a, b] : Fin 3 → ℕ) x)
    (w : (⟨3, ![1, a, b]⟩ : Shape).Idx → Val e) (L : List (View.Piece Val ⟨3, ![4, a, b]⟩ e)) (i : Fin a) (j : Fin b) :
    View.canon (⟨Rect.unit (s := ⟨3, ![4, a, b]⟩) ![n, 0, 0] ![1, a, b] inb, w⟩ :: L) (ix3 ⟨n, hn⟩ i j) = w (ix3 0 i j) := by
  rw [← emb3 hn inb]; exact View.canon_cons_emb _ _ _ _

theorem canon_skip3 {a b n : ℕ} (g : Fin 4) (hg : g.val ≠ n) (inb : ∀ x, (![n, 0, 0] : Fin 3 → ℕ) x + (![1, a, b] : Fin 3 → ℕ) x ≤ (![4, a, b] : Fin 3 → ℕ) x)
    (w : (⟨3, ![1, a, b]⟩ : Shape).Idx → Val e) (L : List (View.Piece Val ⟨3, ![4, a, b]⟩ e)) (i : Fin a) (j : Fin b) :
    View.canon (⟨Rect.unit (s := ⟨3, ![4, a, b]⟩) ![n, 0, 0] ![1, a, b] inb, w⟩ :: L) (ix3 g i j) = View.canon L (ix3 g i j) := by
  refine View.canon_cons_of_not_mem _ _ ?_
  rw [Rect.mem_set_unit]
  intro h
  have h0 := h 0
  exact hg (by have h1 : n ≤ g.val := h0.1; have h2 : g.val < n + 1 := h0.2; omega)

/-- A read of plane `g` where the list's first piece fills that plane, -/
theorem readCov_hit3 {sig : RefSig} {κ : Kind} {sp : Space} {a b n : ℕ} (v : View sig κ sp ⟨3, ![4, a, b]⟩ e)
    (inb : ∀ x, (![n, 0, 0] : Fin 3 → ℕ) x + (![1, a, b] : Fin 3 → ℕ) x ≤ (![4, a, b] : Fin 3 → ℕ) x)
    (w : (⟨3, ![1, a, b]⟩ : Shape).Idx → Val e) (L : List (View.Piece Val ⟨3, ![4, a, b]⟩ e)) :
    v.readCov (⟨Rect.unit (s := ⟨3, ![4, a, b]⟩) ![n, 0, 0] ![1, a, b] inb, w⟩ :: L)
      (Rect.unit (s := ⟨3, ![4, a, b]⟩) ![n, 0, 0] ![1, a, b] inb).toLoadRect = w := by
  rw [View.readCov_eq_canon']; funext x; exact View.canon_cons_emb _ _ _ _

/-- and where it fills another. -/
theorem readCov_skip3 {sig : RefSig} {κ : Kind} {sp : Space} {a b n n' : ℕ} (h : n ≠ n') (v : View sig κ sp ⟨3, ![4, a, b]⟩ e)
    (inb : ∀ x, (![n, 0, 0] : Fin 3 → ℕ) x + (![1, a, b] : Fin 3 → ℕ) x ≤ (![4, a, b] : Fin 3 → ℕ) x)
    (inb' : ∀ x, (![n', 0, 0] : Fin 3 → ℕ) x + (![1, a, b] : Fin 3 → ℕ) x ≤ (![4, a, b] : Fin 3 → ℕ) x)
    (w : (⟨3, ![1, a, b]⟩ : Shape).Idx → Val e) (L : List (View.Piece Val ⟨3, ![4, a, b]⟩ e)) :
    v.readCov (⟨Rect.unit (s := ⟨3, ![4, a, b]⟩) ![n', 0, 0] ![1, a, b] inb', w⟩ :: L)
      (Rect.unit (s := ⟨3, ![4, a, b]⟩) ![n, 0, 0] ![1, a, b] inb).toLoadRect =
    v.readCov L (Rect.unit (s := ⟨3, ![4, a, b]⟩) ![n, 0, 0] ![1, a, b] inb).toLoadRect := by
  have hn : n < 4 := by have := inb 0; exact (show n + 1 ≤ 4 from this)
  rw [View.readCov_eq_canon', View.readCov_eq_canon']; funext x
  obtain ⟨i, j, rfl⟩ := eq_ix3_one x
  show View.canon _ ((Rect.unit (s := ⟨3, ![4, a, b]⟩) ![n, 0, 0] ![1, a, b] inb).emb _) =
    View.canon _ ((Rect.unit (s := ⟨3, ![4, a, b]⟩) ![n, 0, 0] ![1, a, b] inb).emb _)
  rw [emb3 hn inb]
  exact canon_skip3 _ h inb' w L i j

theorem ld3 {a b n : ℕ} (hn : n < 4) (inb : ∀ x, (![n, 0, 0] : Fin 3 → ℕ) x + (![1, a, b] : Fin 3 → ℕ) x ≤ (![4, a, b] : Fin 3 → ℕ) x)
    (X : (⟨3, ![4, a, b]⟩ : Shape).Idx → Val e) :
    View.ld X (Rect.unit (s := ⟨3, ![4, a, b]⟩) ![n, 0, 0] ![1, a, b] inb) = pl3 X ⟨n, hn⟩ := by
  funext x
  obtain ⟨i, j, rfl⟩ := eq_ix3_one x
  exact congrArg X (emb3 hn inb i j)

/-- A read of plane `g` after one store of the whole block. -/
theorem readCov_whole3 {sig : RefSig} {κ : Kind} {sp : Space} {a b n : ℕ} (hn : n < 4) (v : View sig κ sp ⟨3, ![4, a, b]⟩ e)
    (inb : ∀ x, (![n, 0, 0] : Fin 3 → ℕ) x + (![1, a, b] : Fin 3 → ℕ) x ≤ (![4, a, b] : Fin 3 → ℕ) x)
    (inb0 : ∀ x, (![0, 0, 0] : Fin 3 → ℕ) x + (![4, a, b] : Fin 3 → ℕ) x ≤ (![4, a, b] : Fin 3 → ℕ) x)
    (w : (⟨3, ![4, a, b]⟩ : Shape).Idx → Val e) (L : List (View.Piece Val ⟨3, ![4, a, b]⟩ e)) :
    v.readCov (⟨Rect.unit (s := ⟨3, ![4, a, b]⟩) ![0, 0, 0] ![4, a, b] inb0, w⟩ :: L)
      (Rect.unit (s := ⟨3, ![4, a, b]⟩) ![n, 0, 0] ![1, a, b] inb).toLoadRect = pl3 w ⟨n, hn⟩ := by
  rw [View.readCov_eq_canon', View.canon_cons_unit_zero (S := ⟨3, ![4, a, b]⟩) (funext fun x => by fin_cases x <;> rfl)]
  exact ld3 hn inb w

theorem emb4 {a b d n : ℕ} (hn : n < 4) (inb : ∀ x, (![n, 0, 0, 0] : Fin 4 → ℕ) x + (![1, a, b, d] : Fin 4 → ℕ) x ≤ (![4, a, b, d] : Fin 4 → ℕ) x)
    (i : Fin a) (j : Fin b) (k : Fin d) :
    (Rect.unit (s := ⟨4, ![4, a, b, d]⟩) ![n, 0, 0, 0] ![1, a, b, d] inb).emb (ix4 (0 : Fin 1) i j k) = ix4 ⟨n, hn⟩ i j k := by
  funext x
  match x with
  | ⟨0, _⟩ => exact Fin.ext (show n + 1 * 0 = n by omega)
  | ⟨1, _⟩ => exact Fin.ext (show 0 + 1 * i.val = i.val by omega)
  | ⟨2, _⟩ => exact Fin.ext (show 0 + 1 * j.val = j.val by omega)
  | ⟨3, _⟩ => exact Fin.ext (show 0 + 1 * k.val = k.val by omega)

theorem canon_hit4 {a b d n : ℕ} (hn : n < 4) (inb : ∀ x, (![n, 0, 0, 0] : Fin 4 → ℕ) x + (![1, a, b, d] : Fin 4 → ℕ) x ≤ (![4, a, b, d] : Fin 4 → ℕ) x)
    (w : (⟨4, ![1, a, b, d]⟩ : Shape).Idx → Val e) (L : List (View.Piece Val ⟨4, ![4, a, b, d]⟩ e)) (i : Fin a) (j : Fin b) (k : Fin d) :
    View.canon (⟨Rect.unit (s := ⟨4, ![4, a, b, d]⟩) ![n, 0, 0, 0] ![1, a, b, d] inb, w⟩ :: L) (ix4 ⟨n, hn⟩ i j k) = w (ix4 0 i j k) := by
  rw [← emb4 hn inb]; exact View.canon_cons_emb _ _ _ _

theorem canon_skip4 {a b d n : ℕ} (g : Fin 4) (hg : g.val ≠ n) (inb : ∀ x, (![n, 0, 0, 0] : Fin 4 → ℕ) x + (![1, a, b, d] : Fin 4 → ℕ) x ≤ (![4, a, b, d] : Fin 4 → ℕ) x)
    (w : (⟨4, ![1, a, b, d]⟩ : Shape).Idx → Val e) (L : List (View.Piece Val ⟨4, ![4, a, b, d]⟩ e)) (i : Fin a) (j : Fin b) (k : Fin d) :
    View.canon (⟨Rect.unit (s := ⟨4, ![4, a, b, d]⟩) ![n, 0, 0, 0] ![1, a, b, d] inb, w⟩ :: L) (ix4 g i j k) = View.canon L (ix4 g i j k) := by
  refine View.canon_cons_of_not_mem _ _ ?_
  rw [Rect.mem_set_unit]
  intro h
  have h0 := h 0
  exact hg (by have h1 : n ≤ g.val := h0.1; have h2 : g.val < n + 1 := h0.2; omega)

end Cert.Plane

/-! ## One step of one batch

The body treats the four batches of a block one after another by the same operations. Each stage is named once here. -/

namespace Cert.KernelIdeal.Step

open Cert.KernelIdeal Cert.KernelIdeal.Gen Cert.Plane

variable {F : FTy → Type} [FloatOps F]

/-- The normalised rows of one batch, features down and positions across. -/
def xnV (bb : Vec F S448x128 .f32) (x : Vec F S1x256x128 .f32) : FVec F S128x256 .f32 :=
  k0_pay61 (k0_pay13 bb) (k0_pay14 bb) (k0_pay59 x) (k0_pay60 x)

/-- A weight applied to the normalised rows. -/
def linV (w : Vec F S64x128 .f32) (xn : FVec F S128x256 .f32) : FVec F S64x256 .f32 :=
  matmul dot_S64x128_S128x256_S64x256_1_0_0_1_n_n none w xn (constant S64x256 .f32 0x00000000#32)

/-- The positive part of each column over a small constant plus the column's sum. -/
def nrmV (p : FVec F S64x256 .f32) : FVec F S64x256 .f32 :=
  have r : FVec F S64x256 .f32 := maximumf p (broadcast S64x256 (Scalar.ofBits .f32 0x00000000#32))
  have s : FVec F S1x256 .f32 := shapeCast S1x256 (multiReduction .add [0] S256 r 0x00000000#32 reduces_S64x256_S256 (.inl rfl) rfl) shapeCasts_S256_S1x256
  divf r (broadcastTo S64x256 (addf (broadcast S1x256 (Scalar.ofBits .f32 0x3727C5AC#32)) s) broadcasts_S1x256_S64x256)

/-- The value row of every pair (value feature, key feature). -/
def vrepV (v : FVec F S64x256 .f32) : FVec F S4096x256 .bf16 :=
  shapeCast S4096x256 (broadcastTo S64x64x256 (shapeCast S64x1x256 (truncf .bf16 v bitsLt_bf16_f32) shapeCasts_S64x256_S64x1x256)
    broadcasts_S64x1x256_S64x64x256) shapeCasts_S64x64x256_S4096x256

/-- The carried pair sums after a chunk. -/
def csV (v k : FVec F S64x256 .f32) (u2 : Vec F S256x256 .bf16) (cs : Vec F S1x4096x128 .f32) : FVec F S1x4096x128 .f32 :=
  k0_pay69 (vrepV v) (truncf .bf16 k bitsLt_bf16_f32) cs u2

/-- The state block of a chunk. -/
def sV (v k : FVec F S64x256 .f32) (u2 : Vec F S256x256 .bf16) (cs : Vec F S1x4096x128 .f32) : FVec F S1x64x64x256 .f32 :=
  k0_pay70 (vrepV v) (truncf .bf16 k bitsLt_bf16_f32) cs u2

/-- The output block of a chunk. -/
def yV (bb : Vec F S448x128 .f32) (xn : FVec F S128x256 .f32) (v k q : FVec F S64x256 .f32) (um : Vec F S256x256 .f32)
    (w1 w2 : Vec F S64x64 .f32) (ws : Vec F S64x128 .f32) (cm : Vec F S1x64x64 .f32) : FVec F S1x64x256 .f32 :=
  k0_pay1 (k0_pay16 bb) (k0_pay17 bb) xn (k0_pay72 (k0_pay15 bb) v k q cm um w1) (Scalar.ofBits .f32 0x00000000#32) w2 ws

/-- The carried state matrix after a chunk. -/
def cmV (v k : FVec F S64x256 .f32) (cm : Vec F S1x64x64 .f32) : FVec F S1x64x64 .f32 :=
  k0_pay2 v k (k0_pay71 cm)

/-- The pair sums a sequence starts with, from its state matrix. -/
def cs0V (st : Vec F S1x64x64 .f32) (er : Vec F S4096x64 .bf16) (jr : Vec F S4096x128 .bf16) (on : Vec F S128x128 .bf16) : FVec F S1x4096x128 .f32 :=
  k0_pay11 st er jr on

section Pieces
variable (c : Dev nD) (i : grid0.Coords)
  (a2 : Memref sig .tc .vmem S4x256x128 .f32) (h2 : a2.IsWhole)
  (a3 : Memref sig .tc .vmem S4x64x64 .f32) (h3 : a3.IsWhole)
  (a4 : Memref sig .tc .vmem S64x128 .f32) (h4 : a4.IsWhole)
  (a5 : Memref sig .tc .vmem S64x128 .f32) (h5 : a5.IsWhole)
  (a6 : Memref sig .tc .vmem S64x128 .f32) (h6 : a6.IsWhole)
  (a7 : Memref sig .tc .vmem S448x128 .f32) (h7 : a7.IsWhole)
  (a8 : Memref sig .tc .vmem S64x64 .f32) (h8 : a8.IsWhole)
  (a9 : Memref sig .tc .vmem S64x64 .f32) (h9 : a9.IsWhole)
  (a10 : Memref sig .tc .vmem S64x128 .f32) (h10 : a10.IsWhole)
  (a11 : Memref sig .tc .vmem S4096x64 .bf16) (h11 : a11.IsWhole)
  (a12 : Memref sig .tc .vmem S4096x128 .bf16) (h12 : a12.IsWhole)
  (a13 : Memref sig .tc .vmem S128x128 .bf16) (h13 : a13.IsWhole)
  (a14 : Memref sig .tc .vmem S256x256 .bf16) (h14 : a14.IsWhole)
  (a15 : Memref sig .tc .vmem S256x256 .f32) (h15 : a15.IsWhole)
  (a16 : Memref sig .tc .vmem S4x64x256 .f32) (h16 : a16.IsWhole)
  (a17 : Memref sig .tc .vmem S4x64x64x256 .f32) (h17 : a17.IsWhole)
  (a18 : Memref sig .tc .vmem S4x4096x128 .f32) (h18 : a18.IsWhole)
  (a19 : Memref sig .tc .vmem S4x64x64 .f32) (h19 : a19.IsWhole)
  (x0 : Vec F S4x256x128 .f32) (x1 : Vec F S4x64x64 .f32) (x2 : Vec F S64x128 .f32) (x3 : Vec F S64x128 .f32) (x4 : Vec F S64x128 .f32) (x5 : Vec F S448x128 .f32) (x6 : Vec F S64x64 .f32) (x7 : Vec F S64x64 .f32) (x8 : Vec F S64x128 .f32) (x9 : Vec F S4096x64 .bf16) (x10 : Vec F S4096x128 .bf16) (x11 : Vec F S128x128 .bf16) (x12 : Vec F S256x256 .bf16) (x13 : Vec F S256x256 .f32)

/-- The value rows, keys and queries of batch `g` of a block. -/
abbrev XN (g : Fin 4) : FVec F S128x256 .f32 := xnV x5 (pl3 x0 g)
abbrev VV (g : Fin 4) : FVec F S64x256 .f32 := linV x4 (xnV x5 (pl3 x0 g))
abbrev KK (g : Fin 4) : FVec F S64x256 .f32 := nrmV (linV x2 (xnV x5 (pl3 x0 g)))
abbrev QQ (g : Fin 4) : FVec F S64x256 .f32 := nrmV (linV x3 (xnV x5 (pl3 x0 g)))

/-- What a chunk leaves, batch by batch, over carried pair sums `cs` and a carried state matrix `cm`. -/
def yAll (cm : Fin 4 → Vec F S1x64x64 .f32) : Vec F S4x64x256 .f32 := fun y =>
  yV x5 (XN x0 x5 (y 0)) (VV x0 x4 x5 (y 0)) (KK x0 x2 x5 (y 0)) (QQ x0 x3 x5 (y 0)) x13 x6 x7 x8 (cm (y 0)) (ix3 0 (y 1) (y 2))
def sAll (cs : Fin 4 → Vec F S1x4096x128 .f32) : Vec F S4x64x64x256 .f32 := fun y =>
  sV (VV x0 x4 x5 (y 0)) (KK x0 x2 x5 (y 0)) x12 (cs (y 0)) (ix4 0 (y 1) (y 2) (y 3))
def csAll (cs : Fin 4 → Vec F S1x4096x128 .f32) : Vec F S4x4096x128 .f32 := fun y =>
  csV (VV x0 x4 x5 (y 0)) (KK x0 x2 x5 (y 0)) x12 (cs (y 0)) (ix3 0 (y 1) (y 2))
def cmAll (cm : Fin 4 → Vec F S1x64x64 .f32) : Vec F S4x64x64 .f32 := fun y =>
  cmV (VV x0 x4 x5 (y 0)) (KK x0 x2 x5 (y 0)) (cm (y 0)) (ix3 0 (y 1) (y 2))

theorem hz2 : (![0, 0] : Fin 2 → Nat) = fun _ => 0 := funext fun a => by fin_cases a <;> rfl
theorem hz3 : (![0, 0, 0] : Fin 3 → Nat) = fun _ => 0 := funext fun a => by fin_cases a <;> rfl

variable (xs0 : Vec F S4x4096x128 .f32) (xs1 : Vec F S4x64x64 .f32)

theorem out0_B_14_eq (hc : ¬cond0_0 i) :
    out0_B_14 c i a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 xs0 xs1 = yAll x0 x2 x3 x4 x5 x6 x7 x8 x13 (pl3 xs1) := by
  unfold out0_B_14
  rw [View.read_writes_junk_eq_canon]
  unfold kernelRun0_B
  dsimp only
  sl_unfold_words
  funext y
  obtain ⟨g, i', j', rfl⟩ : ∃ (g : Fin 4) (i' : Fin 64) (j' : Fin 256), y = ix3 g i' j' := ⟨y 0, y 1, y 2, eq_ix3 y⟩
  match g with
  | ⟨0, hlt⟩ =>
    refine (canon_skip3 ⟨0, by decide⟩ (by decide) _ _ _ i' j').trans <| (canon_skip3 ⟨0, by decide⟩ (by decide) _ _ _ i' j').trans <| (canon_skip3 ⟨0, by decide⟩ (by decide) _ _ _ i' j').trans <| (canon_hit3 hlt _ _ _ i' j').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨1, hlt⟩ =>
    refine (canon_skip3 ⟨1, by decide⟩ (by decide) _ _ _ i' j').trans <| (canon_skip3 ⟨1, by decide⟩ (by decide) _ _ _ i' j').trans <| (canon_hit3 hlt _ _ _ i' j').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨2, hlt⟩ =>
    refine (canon_skip3 ⟨2, by decide⟩ (by decide) _ _ _ i' j').trans <| (canon_hit3 hlt _ _ _ i' j').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨3, hlt⟩ =>
    refine (canon_hit3 hlt _ _ _ i' j').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl

theorem out0_B_15_eq (hc : ¬cond0_0 i) :
    out0_B_15 c i a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 xs0 xs1 = sAll x0 x2 x4 x5 x12 (pl3 xs0) := by
  unfold out0_B_15
  rw [View.read_writes_junk_eq_canon]
  unfold kernelRun0_B
  dsimp only
  sl_unfold_words
  funext y
  obtain ⟨g, i', j', k', rfl⟩ : ∃ (g : Fin 4) (i' : Fin 64) (j' : Fin 64) (k' : Fin 256), y = ix4 g i' j' k' := ⟨y 0, y 1, y 2, y 3, eq_ix4 y⟩
  match g with
  | ⟨0, hlt⟩ =>
    refine (canon_skip4 ⟨0, by decide⟩ (by decide) _ _ _ i' j' k').trans <| (canon_skip4 ⟨0, by decide⟩ (by decide) _ _ _ i' j' k').trans <| (canon_skip4 ⟨0, by decide⟩ (by decide) _ _ _ i' j' k').trans <| (canon_hit4 hlt _ _ _ i' j' k').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨1, hlt⟩ =>
    refine (canon_skip4 ⟨1, by decide⟩ (by decide) _ _ _ i' j' k').trans <| (canon_skip4 ⟨1, by decide⟩ (by decide) _ _ _ i' j' k').trans <| (canon_hit4 hlt _ _ _ i' j' k').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨2, hlt⟩ =>
    refine (canon_skip4 ⟨2, by decide⟩ (by decide) _ _ _ i' j' k').trans <| (canon_hit4 hlt _ _ _ i' j' k').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨3, hlt⟩ =>
    refine (canon_hit4 hlt _ _ _ i' j' k').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl

theorem sout0_B_0_eq (hc : ¬cond0_0 i) :
    sout0_B_0 c i a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 xs0 xs1 = csAll x0 x2 x4 x5 x12 (pl3 xs0) := by
  unfold sout0_B_0
  rw [View.read_writes_junk_eq_canon]
  unfold kernelRun0_B
  dsimp only
  sl_unfold_words
  funext y
  obtain ⟨g, i', j', rfl⟩ : ∃ (g : Fin 4) (i' : Fin 4096) (j' : Fin 128), y = ix3 g i' j' := ⟨y 0, y 1, y 2, eq_ix3 y⟩
  match g with
  | ⟨0, hlt⟩ =>
    refine (canon_skip3 ⟨0, by decide⟩ (by decide) _ _ _ i' j').trans <| (canon_skip3 ⟨0, by decide⟩ (by decide) _ _ _ i' j').trans <| (canon_skip3 ⟨0, by decide⟩ (by decide) _ _ _ i' j').trans <| (canon_hit3 hlt _ _ _ i' j').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨1, hlt⟩ =>
    refine (canon_skip3 ⟨1, by decide⟩ (by decide) _ _ _ i' j').trans <| (canon_skip3 ⟨1, by decide⟩ (by decide) _ _ _ i' j').trans <| (canon_hit3 hlt _ _ _ i' j').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨2, hlt⟩ =>
    refine (canon_skip3 ⟨2, by decide⟩ (by decide) _ _ _ i' j').trans <| (canon_hit3 hlt _ _ _ i' j').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨3, hlt⟩ =>
    refine (canon_hit3 hlt _ _ _ i' j').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl

theorem sout0_B_1_eq (hc : ¬cond0_0 i) :
    sout0_B_1 c i a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 xs0 xs1 = cmAll x0 x2 x4 x5 (pl3 xs1) := by
  unfold sout0_B_1
  rw [View.read_writes_junk_eq_canon]
  unfold kernelRun0_B
  dsimp only
  sl_unfold_words
  funext y
  obtain ⟨g, i', j', rfl⟩ : ∃ (g : Fin 4) (i' : Fin 64) (j' : Fin 64), y = ix3 g i' j' := ⟨y 0, y 1, y 2, eq_ix3 y⟩
  match g with
  | ⟨0, hlt⟩ =>
    refine (canon_skip3 ⟨0, by decide⟩ (by decide) _ _ _ i' j').trans <| (canon_skip3 ⟨0, by decide⟩ (by decide) _ _ _ i' j').trans <| (canon_skip3 ⟨0, by decide⟩ (by decide) _ _ _ i' j').trans <| (canon_hit3 hlt _ _ _ i' j').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨1, hlt⟩ =>
    refine (canon_skip3 ⟨1, by decide⟩ (by decide) _ _ _ i' j').trans <| (canon_skip3 ⟨1, by decide⟩ (by decide) _ _ _ i' j').trans <| (canon_hit3 hlt _ _ _ i' j').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨2, hlt⟩ =>
    refine (canon_skip3 ⟨2, by decide⟩ (by decide) _ _ _ i' j').trans <| (canon_hit3 hlt _ _ _ i' j').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨3, hlt⟩ =>
    refine (canon_hit3 hlt _ _ _ i' j').trans ?_
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl

end Pieces

end Cert.KernelIdeal.Step

end
-- ==== Proof.StepA.lean ====
module

public import proofs.«01_k».proof.Proof.Gen.KernelIdeal.Frame
public import proofs.«01_k».proof.Proof.Step
public import Idealize.ShloMosaic.Lib.Pipeline.Value
public import Idealize.ShloMosaic.Lib.ValueIdx
public import Idealize.ShloMosaic.Lib.Tactic

@[expose] public section

set_option maxRecDepth 16384

noncomputable section

open Idealize.ShloMosaic Idealize.ShloMosaic.TcCoe Idealize.SL.Sem Idealize.ShloMosaic.ValueIdx

/-! ## What the body leaves at the first chunk of a block of sequences -/

namespace Cert.KernelIdeal.Step

open Cert.KernelIdeal Cert.KernelIdeal.Gen Cert.Plane

variable {F : FTy → Type} [FloatOps F]

section Pieces
variable (c : Dev nD) (i : grid0.Coords)
  (a2 : Memref sig .tc .vmem S4x256x128 .f32) (h2 : a2.IsWhole)
  (a3 : Memref sig .tc .vmem S4x64x64 .f32) (h3 : a3.IsWhole)
  (a4 : Memref sig .tc .vmem S64x128 .f32) (h4 : a4.IsWhole)
  (a5 : Memref sig .tc .vmem S64x128 .f32) (h5 : a5.IsWhole)
  (a6 : Memref sig .tc .vmem S64x128 .f32) (h6 : a6.IsWhole)
  (a7 : Memref sig .tc .vmem S448x128 .f32) (h7 : a7.IsWhole)
  (a8 : Memref sig .tc .vmem S64x64 .f32) (h8 : a8.IsWhole)
  (a9 : Memref sig .tc .vmem S64x64 .f32) (h9 : a9.IsWhole)
  (a10 : Memref sig .tc .vmem S64x128 .f32) (h10 : a10.IsWhole)
  (a11 : Memref sig .tc .vmem S4096x64 .bf16) (h11 : a11.IsWhole)
  (a12 : Memref sig .tc .vmem S4096x128 .bf16) (h12 : a12.IsWhole)
  (a13 : Memref sig .tc .vmem S128x128 .bf16) (h13 : a13.IsWhole)
  (a14 : Memref sig .tc .vmem S256x256 .bf16) (h14 : a14.IsWhole)
  (a15 : Memref sig .tc .vmem S256x256 .f32) (h15 : a15.IsWhole)
  (a16 : Memref sig .tc .vmem S4x64x256 .f32) (h16 : a16.IsWhole)
  (a17 : Memref sig .tc .vmem S4x64x64x256 .f32) (h17 : a17.IsWhole)
  (a18 : Memref sig .tc .vmem S4x4096x128 .f32) (h18 : a18.IsWhole)
  (a19 : Memref sig .tc .vmem S4x64x64 .f32) (h19 : a19.IsWhole)
  (x0 : Vec F S4x256x128 .f32) (x1 : Vec F S4x64x64 .f32) (x2 : Vec F S64x128 .f32) (x3 : Vec F S64x128 .f32) (x4 : Vec F S64x128 .f32) (x5 : Vec F S448x128 .f32) (x6 : Vec F S64x64 .f32) (x7 : Vec F S64x64 .f32) (x8 : Vec F S64x128 .f32) (x9 : Vec F S4096x64 .bf16) (x10 : Vec F S4096x128 .bf16) (x11 : Vec F S128x128 .bf16) (x12 : Vec F S256x256 .bf16) (x13 : Vec F S256x256 .f32)

theorem pay3_eq (x : Vec F S4x64x64 .f32) : k0_pay3 x = x := by
  unfold k0_pay3; simp only [shapeCast_self]

theorem out0_A_14_eq (hc : cond0_0 i) :
    out0_A_14 c i a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 = yAll x0 x2 x3 x4 x5 x6 x7 x8 x13 (pl3 x1) := by
  unfold out0_A_14
  rw [View.read_writes_junk_eq_canon]
  unfold kernelRun0_A
  dsimp only
  sl_unfold_words
  funext y
  obtain ⟨g, i', j', rfl⟩ : ∃ (g : Fin 4) (i' : Fin 64) (j' : Fin 256), y = ix3 g i' j' := ⟨y 0, y 1, y 2, eq_ix3 y⟩
  match g with
  | ⟨0, hlt⟩ =>
    refine (canon_skip3 ⟨0, by decide⟩ (by decide) _ _ _ i' j').trans <| (canon_skip3 ⟨0, by decide⟩ (by decide) _ _ _ i' j').trans <| (canon_skip3 ⟨0, by decide⟩ (by decide) _ _ _ i' j').trans <| (canon_hit3 hlt _ _ _ i' j').trans ?_
    simp only [readCov_hit3, readCov_skip3 (n := 0) (n' := 1) (by decide), readCov_skip3 (n := 0) (n' := 2) (by decide), readCov_skip3 (n := 0) (n' := 3) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨1, hlt⟩ =>
    refine (canon_skip3 ⟨1, by decide⟩ (by decide) _ _ _ i' j').trans <| (canon_skip3 ⟨1, by decide⟩ (by decide) _ _ _ i' j').trans <| (canon_hit3 hlt _ _ _ i' j').trans ?_
    simp only [readCov_hit3, readCov_skip3 (n := 1) (n' := 0) (by decide), readCov_skip3 (n := 1) (n' := 2) (by decide), readCov_skip3 (n := 1) (n' := 3) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨2, hlt⟩ =>
    refine (canon_skip3 ⟨2, by decide⟩ (by decide) _ _ _ i' j').trans <| (canon_hit3 hlt _ _ _ i' j').trans ?_
    simp only [readCov_hit3, readCov_skip3 (n := 2) (n' := 0) (by decide), readCov_skip3 (n := 2) (n' := 1) (by decide), readCov_skip3 (n := 2) (n' := 3) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨3, hlt⟩ =>
    refine (canon_hit3 hlt _ _ _ i' j').trans ?_
    simp only [readCov_hit3, readCov_skip3 (n := 3) (n' := 0) (by decide), readCov_skip3 (n := 3) (n' := 1) (by decide), readCov_skip3 (n := 3) (n' := 2) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl

theorem out0_A_15_eq (hc : cond0_0 i) :
    out0_A_15 c i a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 = sAll x0 x2 x4 x5 x12 (fun g => cs0V (pl3 x1 g) x9 x10 x11) := by
  unfold out0_A_15
  rw [View.read_writes_junk_eq_canon]
  unfold kernelRun0_A
  dsimp only
  sl_unfold_words
  funext y
  obtain ⟨g, i', j', k', rfl⟩ : ∃ (g : Fin 4) (i' : Fin 64) (j' : Fin 64) (k' : Fin 256), y = ix4 g i' j' k' := ⟨y 0, y 1, y 2, y 3, eq_ix4 y⟩
  match g with
  | ⟨0, hlt⟩ =>
    refine (canon_skip4 ⟨0, by decide⟩ (by decide) _ _ _ i' j' k').trans <| (canon_skip4 ⟨0, by decide⟩ (by decide) _ _ _ i' j' k').trans <| (canon_skip4 ⟨0, by decide⟩ (by decide) _ _ _ i' j' k').trans <| (canon_hit4 hlt _ _ _ i' j' k').trans ?_
    simp only [readCov_hit3, readCov_skip3 (n := 0) (n' := 1) (by decide), readCov_skip3 (n := 0) (n' := 2) (by decide), readCov_skip3 (n := 0) (n' := 3) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨1, hlt⟩ =>
    refine (canon_skip4 ⟨1, by decide⟩ (by decide) _ _ _ i' j' k').trans <| (canon_skip4 ⟨1, by decide⟩ (by decide) _ _ _ i' j' k').trans <| (canon_hit4 hlt _ _ _ i' j' k').trans ?_
    simp only [readCov_hit3, readCov_skip3 (n := 1) (n' := 0) (by decide), readCov_skip3 (n := 1) (n' := 2) (by decide), readCov_skip3 (n := 1) (n' := 3) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨2, hlt⟩ =>
    refine (canon_skip4 ⟨2, by decide⟩ (by decide) _ _ _ i' j' k').trans <| (canon_hit4 hlt _ _ _ i' j' k').trans ?_
    simp only [readCov_hit3, readCov_skip3 (n := 2) (n' := 0) (by decide), readCov_skip3 (n := 2) (n' := 1) (by decide), readCov_skip3 (n := 2) (n' := 3) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨3, hlt⟩ =>
    refine (canon_hit4 hlt _ _ _ i' j' k').trans ?_
    simp only [readCov_hit3, readCov_skip3 (n := 3) (n' := 0) (by decide), readCov_skip3 (n := 3) (n' := 1) (by decide), readCov_skip3 (n := 3) (n' := 2) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl

theorem sout0_A_0_eq (hc : cond0_0 i) :
    sout0_A_0 c i a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 = csAll x0 x2 x4 x5 x12 (fun g => cs0V (pl3 x1 g) x9 x10 x11) := by
  unfold sout0_A_0
  rw [View.read_writes_junk_eq_canon]
  unfold kernelRun0_A
  dsimp only
  sl_unfold_words
  funext y
  obtain ⟨g, i', j', rfl⟩ : ∃ (g : Fin 4) (i' : Fin 4096) (j' : Fin 128), y = ix3 g i' j' := ⟨y 0, y 1, y 2, eq_ix3 y⟩
  match g with
  | ⟨0, hlt⟩ =>
    refine (canon_skip3 ⟨0, by decide⟩ (by decide) _ _ _ i' j').trans <| (canon_skip3 ⟨0, by decide⟩ (by decide) _ _ _ i' j').trans <| (canon_skip3 ⟨0, by decide⟩ (by decide) _ _ _ i' j').trans <| (canon_hit3 hlt _ _ _ i' j').trans ?_
    simp only [readCov_hit3, readCov_skip3 (n := 0) (n' := 1) (by decide), readCov_skip3 (n := 0) (n' := 2) (by decide), readCov_skip3 (n := 0) (n' := 3) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨1, hlt⟩ =>
    refine (canon_skip3 ⟨1, by decide⟩ (by decide) _ _ _ i' j').trans <| (canon_skip3 ⟨1, by decide⟩ (by decide) _ _ _ i' j').trans <| (canon_hit3 hlt _ _ _ i' j').trans ?_
    simp only [readCov_hit3, readCov_skip3 (n := 1) (n' := 0) (by decide), readCov_skip3 (n := 1) (n' := 2) (by decide), readCov_skip3 (n := 1) (n' := 3) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨2, hlt⟩ =>
    refine (canon_skip3 ⟨2, by decide⟩ (by decide) _ _ _ i' j').trans <| (canon_hit3 hlt _ _ _ i' j').trans ?_
    simp only [readCov_hit3, readCov_skip3 (n := 2) (n' := 0) (by decide), readCov_skip3 (n := 2) (n' := 1) (by decide), readCov_skip3 (n := 2) (n' := 3) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨3, hlt⟩ =>
    refine (canon_hit3 hlt _ _ _ i' j').trans ?_
    simp only [readCov_hit3, readCov_skip3 (n := 3) (n' := 0) (by decide), readCov_skip3 (n := 3) (n' := 1) (by decide), readCov_skip3 (n := 3) (n' := 2) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl

theorem sout0_A_1_eq (hc : cond0_0 i) :
    sout0_A_1 c i a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 = cmAll x0 x2 x4 x5 (pl3 x1) := by
  unfold sout0_A_1
  rw [View.read_writes_junk_eq_canon]
  unfold kernelRun0_A
  dsimp only
  sl_unfold_words
  funext y
  obtain ⟨g, i', j', rfl⟩ : ∃ (g : Fin 4) (i' : Fin 64) (j' : Fin 64), y = ix3 g i' j' := ⟨y 0, y 1, y 2, eq_ix3 y⟩
  match g with
  | ⟨0, hlt⟩ =>
    refine (canon_skip3 ⟨0, by decide⟩ (by decide) _ _ _ i' j').trans <| (canon_skip3 ⟨0, by decide⟩ (by decide) _ _ _ i' j').trans <| (canon_skip3 ⟨0, by decide⟩ (by decide) _ _ _ i' j').trans <| (canon_hit3 hlt _ _ _ i' j').trans ?_
    simp only [readCov_hit3, readCov_skip3 (n := 0) (n' := 1) (by decide), readCov_skip3 (n := 0) (n' := 2) (by decide), readCov_skip3 (n := 0) (n' := 3) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨1, hlt⟩ =>
    refine (canon_skip3 ⟨1, by decide⟩ (by decide) _ _ _ i' j').trans <| (canon_skip3 ⟨1, by decide⟩ (by decide) _ _ _ i' j').trans <| (canon_hit3 hlt _ _ _ i' j').trans ?_
    simp only [readCov_hit3, readCov_skip3 (n := 1) (n' := 0) (by decide), readCov_skip3 (n := 1) (n' := 2) (by decide), readCov_skip3 (n := 1) (n' := 3) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨2, hlt⟩ =>
    refine (canon_skip3 ⟨2, by decide⟩ (by decide) _ _ _ i' j').trans <| (canon_hit3 hlt _ _ _ i' j').trans ?_
    simp only [readCov_hit3, readCov_skip3 (n := 2) (n' := 0) (by decide), readCov_skip3 (n := 2) (n' := 1) (by decide), readCov_skip3 (n := 2) (n' := 3) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl
  | ⟨3, hlt⟩ =>
    refine (canon_hit3 hlt _ _ _ i' j').trans ?_
    simp only [readCov_hit3, readCov_skip3 (n := 3) (n' := 0) (by decide), readCov_skip3 (n := 3) (n' := 1) (by decide), readCov_skip3 (n := 3) (n' := 2) (by decide), readCov_whole3 hlt, pay3_eq, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h18.read_unread, h19.read_unread, View.ld_unit_zero (S := S64x128) hz2, View.ld_unit_zero (S := S64x64) hz2, View.ld_unit_zero (S := S448x128) hz2, View.ld_unit_zero (S := S4096x64) hz2, View.ld_unit_zero (S := S4096x128) hz2, View.ld_unit_zero (S := S128x128) hz2, View.ld_unit_zero (S := S256x256) hz2, View.ld_unit_zero (S := S4x64x64) hz3, ld3 hlt]
    rfl

end Pieces

end Cert.KernelIdeal.Step

end
-- ==== Proof.Math.lean ====
module

public import Idealize.ShloMosaic.Lib.ValueIdx
public import Idealize.ShloMosaic.Lib.IdealHost

@[expose] public section

noncomputable section

open Idealize.ShloMosaic
open scoped BigOperators

/-! ## The mathematics of one sequence, over the extended reals

Every row of the input gives a normalised row, and from it a value row, a nonnegative finite key row and a nonnegative
finite query row. The state at a position is the initial state plus the sum of the outer products of the value and key
rows up to that position. -/

namespace Cert.Row

/-- The small constant of both divisions and the normalisation. -/
def eps : EReal := Ideal.ofBits .f32 0x3727C5AC#32
/-- The number of features. -/
def c128 : EReal := Ideal.ofBits .f32 0x43000000#32

theorem eps_pos : 0 < eps := by
  have h : eps = ((10995116 * (2 : ℝ) ^ (-40 : ℤ) : ℝ) : EReal) := by
    simp [eps, Ideal.ofBits, Ideal.ieee, -EReal.coe_mul]
  rw [h]
  exact EReal.coe_pos.mpr (by positivity)

theorem c128_eq : c128 = ((128 : ℝ) : EReal) := by
  simp [c128, Ideal.ofBits, Ideal.ieee, -EReal.coe_mul]; norm_num

theorem c128_pos : 0 < c128 := by
  rw [c128_eq]
  exact EReal.coe_pos.mpr (by norm_num)

section
variable {n m : ℕ}

def mu (r : Fin n → EReal) : EReal := Ideal.div (∑ f, r f) c128
def var (r : Fin n → EReal) : EReal := Ideal.div (∑ f, (r f - mu r) * (r f - mu r)) c128
def xn (γ β r : Fin n → EReal) (f : Fin n) : EReal := (r f - mu r) * Ideal.rsqrt (var r + eps) * γ f + β f
def lin (w : Fin m → Fin n → EReal) (z : Fin n → EReal) (i : Fin m) : EReal := ∑ f, w i f * z f
def nrm (p : Fin n → EReal) (i : Fin n) : EReal := Ideal.div (max (p i) 0) (eps + ∑ j, max (p j) 0)

theorem den_pos (p : Fin n → EReal) : 0 < eps + ∑ j, max (p j) 0 :=
  lt_of_lt_of_le eps_pos (le_add_of_nonneg_right (Finset.sum_nonneg fun j _ => le_max_right _ _))

theorem nrm_eq (p : Fin n → EReal) (i : Fin n) : nrm p i = max (p i) 0 * (eps + ∑ j, max (p j) 0)⁻¹ := by
  unfold nrm Ideal.div
  rw [if_neg (den_pos p).ne']

theorem nrm_nonneg (p : Fin n → EReal) (i : Fin n) : 0 ≤ nrm p i := by
  rw [nrm_eq]
  exact mul_nonneg (le_max_right _ _) (EReal.inv_nonneg_of_nonneg (den_pos p).le)

theorem nrm_ne_top (p : Fin n → EReal) (i : Fin n) : nrm p i ≠ ⊤ := by
  rw [nrm_eq]
  generalize hd : eps + ∑ j, max (p j) 0 = d
  by_cases h : d = ⊤
  · rw [h, EReal.inv_top, mul_zero]; exact EReal.zero_ne_top
  · have hp : max (p i) 0 ≠ ⊤ := by
      intro ht
      apply h
      have h1 : max (p i) 0 ≤ ∑ j, max (p j) 0 :=
        Finset.single_le_sum (f := fun j => max (p j) 0) (fun j _ => le_max_right _ _) (Finset.mem_univ i)
      rw [ht] at h1
      have h2 : ∑ j, max (p j) 0 = ⊤ := top_le_iff.mp h1
      rw [← hd, h2]
      exact EReal.add_top_of_ne_bot (ne_of_gt (lt_trans EReal.bot_lt_zero eps_pos))
    have hpos : 0 < d := hd ▸ den_pos p
    have hb : d ≠ ⊥ := (lt_trans EReal.bot_lt_zero hpos).ne'
    have hpb : max (p i) 0 ≠ ⊥ := (lt_of_lt_of_le EReal.bot_lt_zero (le_max_right _ _)).ne'
    clear hd
    generalize max (p i) 0 = a at hp hpb
    lift d to ℝ using ⟨h, hb⟩
    lift a to ℝ using ⟨hp, hpb⟩
    rw [← EReal.coe_inv, ← EReal.coe_mul]
    exact EReal.coe_ne_top _

/-- A sum of nonnegative terms may be multiplied through from the left, whatever the factor. -/
theorem mul_sum_of_nonneg {ι : Type} (s : Finset ι) (c : EReal) (f : ι → EReal) (hf : ∀ i, 0 ≤ f i) :
    c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i), ih]

/-- A sum may be multiplied through by a nonnegative finite factor. -/
theorem sum_mul_of_nonneg {ι : Type} (s : Finset ι) (c : EReal) (h0 : 0 ≤ c) (ht : c ≠ ⊤) (f : ι → EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A state row applied to a query: the masked attention form plus the carried state's part. -/
theorem apply_state {T : Type} [Fintype T] (v : T → EReal) (k : T → Fin n → EReal) (q : Fin n → EReal) (a : Fin n → EReal) (mk : T → EReal)
    (hmk : ∀ s, mk s = 0 ∨ mk s = 1) (hk : ∀ s j, 0 ≤ k s j) (hq : ∀ j, 0 ≤ q j) (hqt : ∀ j, q j ≠ ⊤) :
    ∑ s, v s * ((∑ j, k s j * q j) * mk s) + ∑ j, a j * q j = ∑ j, (∑ s, (v s * k s j) * mk s + a j) * q j := by
  have h1 : ∀ s, v s * ((∑ j, k s j * q j) * mk s) = ∑ j, (v s * k s j) * mk s * q j := by
    intro s
    rcases hmk s with h | h <;> rw [h]
    · simp
    · rw [mul_one, mul_sum_of_nonneg _ _ _ fun j => mul_nonneg (hk s j) (hq j)]
      exact Finset.sum_congr rfl fun j _ => by rw [mul_one, mul_assoc]
  simp only [h1]
  rw [Finset.sum_comm, ← Finset.sum_add_distrib]
  refine Finset.sum_congr rfl fun j _ => ?_
  rw [EReal.right_distrib_of_nonneg_of_ne_top (hq j) (hqt j), sum_mul_of_nonneg _ _ (hq j) (hqt j)]

end

/-- The pair sum of the first `n` positions over the initial state. -/
def acc (st : EReal) (kv : ℕ → EReal) (n : ℕ) : EReal := ∑ s ∈ Finset.range n, kv s + st

theorem acc_zero (st : EReal) (kv : ℕ → EReal) : acc st kv 0 = st := by
  unfold acc
  rw [Finset.sum_range_zero, zero_add]

/-- The masked sum over a chunk is the sum over its positions up to `l`. -/
theorem sum_mask (L : ℕ) (f : ℕ → EReal) (l : Fin L) :
    ∑ s : Fin L, f s.val * (if s ≤ l then (1 : EReal) else 0) = ∑ s ∈ Finset.range (l.val + 1), f s := by
  have h1 : ∑ s : Fin L, f s.val * (if s ≤ l then (1 : EReal) else 0) =
      ∑ s ∈ Finset.range L, f s * (if s ≤ l.val then (1 : EReal) else 0) :=
    Fin.sum_univ_eq_sum_range (fun s => f s * (if s ≤ l.val then (1 : EReal) else 0)) L
  rw [h1]
  simp only [mul_ite, mul_one, mul_zero]
  rw [← Finset.sum_filter]
  refine Finset.sum_congr (Finset.ext fun s => ?_) fun _ _ => rfl
  have := l.isLt
  simp only [Finset.mem_filter, Finset.mem_range]
  omega

theorem acc_chunk (st : EReal) (kv : ℕ → EReal) (L n : ℕ) (l : Fin L) :
    ∑ s : Fin L, kv (n + s.val) * (if s ≤ l then (1 : EReal) else 0) + acc st kv n = acc st kv (n + (l.val + 1)) := by
  rw [sum_mask L (fun s => kv (n + s)), acc, acc, Finset.sum_range_add kv n (l.val + 1)]
  rw [← add_assoc, add_comm (∑ s ∈ Finset.range (l.val + 1), kv (n + s))]

theorem acc_step (st : EReal) (kv : ℕ → EReal) (L n : ℕ) :
    acc st kv n + ∑ s : Fin L, kv (n + s.val) = acc st kv (n + L) := by
  rw [acc, acc, Finset.sum_range_add, Finset.sum_range (n := L)]
  rw [add_right_comm]

/-- The weights of the layer. -/
structure Pars where
  (γ β : Fin 128 → EReal)
  (wk wq wv ws : Fin 64 → Fin 128 → EReal)
  (w1 w2 : Fin 64 → Fin 64 → EReal)
  (b1 b2 bs : Fin 64 → EReal)

section
variable (P : Pars) (rows : ℕ → Fin 128 → EReal) (st : Fin 64 → Fin 64 → EReal)

/-- The normalised row, and the value, key and query rows it gives. -/
def X (r : Fin 128 → EReal) : Fin 128 → EReal := xn P.γ P.β r
def V (r : Fin 128 → EReal) : Fin 64 → EReal := lin P.wv (X P r)
def K (r : Fin 128 → EReal) : Fin 64 → EReal := nrm (lin P.wk (X P r))
def Q (r : Fin 128 → EReal) : Fin 64 → EReal := nrm (lin P.wq (X P r))
/-- The outer product of the value and key rows at position `s`. -/
def kv (i j : Fin 64) (s : ℕ) : EReal := V P (rows s) i * K P (rows s) j
/-- The state at position `t`. -/
def S (i j : Fin 64) (t : ℕ) : EReal := acc (st i j) (kv P rows i j) (t + 1)
/-- The state applied to the query at position `t`. -/
def att (i : Fin 64) (t : ℕ) : EReal := ∑ j, S P rows st i j t * Q P (rows t) j
/-- The two-layer network and the residual. -/
def head (a : Fin 64 → EReal) (x : Fin 128 → EReal) (i : Fin 64) : EReal :=
  max (∑ o, P.w2 i o * max (∑ p, P.w1 o p * a p + P.b1 o) 0 + P.b2 i) 0 + ∑ f, P.ws i f * x f + P.bs i
/-- The output at position `t`. -/
def Y (i : Fin 64) (t : ℕ) : EReal := head P (fun p => att P rows st p t) (X P (rows t)) i

end

end Cert.Row

end
-- ==== Proof.Read.lean ====
module

public import proofs.«01_k».proof.Proof.Step
public import proofs.«01_k».proof.Proof.Math
public import Idealize.ShloMosaic.Lib.Pointwise

@[expose] public section

set_option maxRecDepth 16384

noncomputable section

open Idealize.ShloMosaic Idealize.ShloMosaic.TcCoe Idealize.SL.Sem

/-! ## The stages of one step, read at an index over the extended reals -/

namespace Cert.KernelIdeal.Read

open Cert.KernelIdeal Cert.KernelIdeal.Gen Cert.KernelIdeal.Step

/-- The row of the pair tables that holds value feature `i` and key feature `j`. -/
abbrev pr (i j : Fin 64) : Fin 4096 := ⟨i.val * 64 + j.val, by omega⟩

theorem linV_apply (w : Vec Ideal S64x128 .f32) (z : FVec Ideal S128x256 .f32) (i : Fin 64) (l : Fin 256) :
    linV w z (ix2 i l) = Row.lin (fun i f => w (ix2 i f)) (fun f => z (ix2 f l)) i := by
  pointwise [linV]
  rfl

theorem nrmV_apply (p : FVec Ideal S64x256 .f32) (i : Fin 64) (l : Fin 256) :
    nrmV p (ix2 i l) = Row.nrm (fun i => p (ix2 i l)) i := by
  pointwise [nrmV]
  rfl

theorem xnV_apply (bb : Vec Ideal S448x128 .f32) (bc : ℕ → EReal) (hbb : ∀ r l, bb (ix2 r l) = bc r.val) (x : Vec Ideal S1x256x128 .f32)
    (f : Fin 128) (l : Fin 256) :
    xnV bb x (ix2 f l) = Row.xn (fun f => bc f.val) (fun f => bc (128 + f.val)) (fun f => x (ix3 0 l f)) f := by
  pointwise [xnV, k0_pay61, k0_pay60, k0_pay59, k0_pay13, k0_pay14, k0_pay12]
  simp only [hbb, dite_eq_ite, ite_self]
  rfl

/-- The prefix sums of the pair products of a chunk. -/
theorem pay68_apply (v k : FVec Ideal S64x256 .f32) (u2 : Vec Ideal S256x256 .bf16) (i j : Fin 64) (l : Fin 256) :
    k0_pay68 (vrepV v) (truncf .bf16 k bitsLt_bf16_f32) u2 (ix2 (pr i j) l) = ∑ s : Fin 256, v (ix2 i s) * k (ix2 j s) * u2 (ix2 s l) := by
  unfold k0_pay68
  generalize hC : concatenate S4096x256 0 _ _ = C
  have hk : ∀ s : Fin 256, C (ix2 (pr i j) s) = k (ix2 j s) := by
    intro s
    subst hC
    refine concatenate_replicate_apply (t := S4096x256) (s₁ := S64x256) (0 : Fin 2) 64 (truncf .bf16 k bitsLt_bf16_f32) _ rfl
      (ix2 (pr i j) s) (ix2 j s) ?_ ?_
    · show j.val = (i.val * 64 + j.val) % 64
      omega
    · intro b hb
      match b with
      | ⟨0, _⟩ => exact absurd rfl hb
      | ⟨1, _⟩ => rfl
  clear hC
  have hi : ∀ h, (⟨(i.val * 64 + j.val) / 64, h⟩ : Fin 64) = i := fun h => Fin.ext (show (i.val * 64 + j.val) / 64 = i.val by omega)
  pointwise [vrepV]
  simp only [hk, hi]

theorem csV_apply (v k : FVec Ideal S64x256 .f32) (u2 : Vec Ideal S256x256 .bf16) (cs : Vec Ideal S1x4096x128 .f32) (i j : Fin 64) (c : Fin 128) :
    csV v k u2 cs (ix3 0 (pr i j) c) = cs (ix3 0 (pr i j) c) + ∑ s : Fin 256, v (ix2 i s) * k (ix2 j s) * u2 (ix2 s 255) := by
  rw [← pay68_apply]
  pointwise [csV, k0_pay69, k0_pay67]

theorem sV_apply (v k : FVec Ideal S64x256 .f32) (u2 : Vec Ideal S256x256 .bf16) (cs : Vec Ideal S1x4096x128 .f32) (a : EReal) (i j : Fin 64) (l : Fin 256)
    (hcs : ∀ c, cs (ix3 0 (pr i j) c) = a) :
    sV v k u2 cs (ix4 0 i j l) = ∑ s : Fin 256, v (ix2 i s) * k (ix2 j s) * u2 (ix2 s l) + a := by
  rw [← pay68_apply]
  pointwise [sV, k0_pay70, k0_pay67]
  simp only [hcs, dite_eq_ite, ite_self]

theorem cmV_apply (v k : FVec Ideal S64x256 .f32) (cm : Vec Ideal S1x64x64 .f32) (i j : Fin 64) :
    cmV v k cm (ix3 0 i j) = cm (ix3 0 i j) + ∑ s : Fin 256, v (ix2 i s) * k (ix2 j s) := by
  pointwise [cmV, k0_pay2, k0_pay71]

/-- The state applied to the query, as the masked attention form plus the carried part. -/
def att (v k q : FVec Ideal S64x256 .f32) (cm : Vec Ideal S1x64x64 .f32) (um : Vec Ideal S256x256 .f32) (i : Fin 64) (l : Fin 256) : EReal :=
  ∑ s : Fin 256, v (ix2 i s) * ((∑ j : Fin 64, k (ix2 j s) * q (ix2 j l)) * um (ix2 s l)) + ∑ j : Fin 64, cm (ix3 0 i j) * q (ix2 j l)

theorem yV_apply (bb : Vec Ideal S448x128 .f32) (bc : ℕ → EReal) (hbb : ∀ r l, bb (ix2 r l) = bc r.val) (xn : FVec Ideal S128x256 .f32)
    (v k q : FVec Ideal S64x256 .f32) (um : Vec Ideal S256x256 .f32) (w1 w2 : Vec Ideal S64x64 .f32) (ws : Vec Ideal S64x128 .f32)
    (cm : Vec Ideal S1x64x64 .f32) (i : Fin 64) (l : Fin 256) :
    yV bb xn v k q um w1 w2 ws cm (ix3 0 i l) =
      max (∑ o : Fin 64, w2 (ix2 i o) * max (∑ p : Fin 64, w1 (ix2 o p) * att v k q cm um p l + bc (256 + o.val)) 0 + bc (320 + i.val)) 0
        + ∑ f : Fin 128, ws (ix2 i f) * xn (ix2 f l) + bc (384 + i.val) := by
  pointwise [yV, k0_pay1, k0_pay72, k0_pay71, k0_pay15, k0_pay16, k0_pay17, k0_pay12]
  simp only [hbb, dite_eq_ite, ite_self, Ideal.ofBits_zero_f32]
  rfl

theorem cs0V_apply (st : Vec Ideal S1x64x64 .f32) (er : Vec Ideal S4096x64 .bf16) (jr : Vec Ideal S4096x128 .bf16) (on : Vec Ideal S128x128 .bf16)
    (her : ∀ i j x, er (ix2 (pr i j) x) = if x = i then 1 else 0)
    (hjr : ∀ i j c, jr (ix2 (pr i j) c) = if c.val % 64 = j.val then 1 else 0)
    (hon : ∀ a b, on (ix2 a b) = 1) (i j : Fin 64) (c : Fin 128) (hst : st (ix3 0 i j) ≠ ⊤) :
    cs0V st er jr on (ix3 0 (pr i j) c) = st (ix3 0 i j) := by
  have pick : ∀ (n : ℕ) (i : Fin n) (f : Fin n → EReal), ∑ x, (if x = i then (1 : EReal) else 0) * f x = f i := by
    intro n i f
    rw [Finset.sum_eq_single i (fun b _ hb => by rw [if_neg hb, zero_mul]) (fun h => absurd (Finset.mem_univ i) h), if_pos rfl, one_mul]
  have h1 : ∀ x : Fin 64, (if x.val % 64 = j.val then (1 : EReal) else 0) = if x = j then 1 else 0 := by
    intro x
    refine if_congr ?_ rfl rfl
    rw [Fin.ext_iff, Nat.mod_eq_of_lt x.isLt]
  have h2 : ∀ x : Fin 64, (if (64 + x.val) % 64 = j.val then (1 : EReal) else 0) = if x = j then 1 else 0 := by
    intro x
    refine if_congr ?_ rfl rfl
    rw [Fin.ext_iff, Nat.add_mod_left, Nat.mod_eq_of_lt x.isLt]
  pointwise [cs0V, k0_pay11]
  simp only [her, hjr, hon, pick, mul_one, h1, h2]
  simp only [mul_comm _ (if _ then (1 : EReal) else 0), pick]
  generalize st (ix3 0 i j) = a at hst
  induction a using EReal.rec with
  | bot => simp
  | top => exact absurd rfl hst
  | coe r => rw [← EReal.coe_sub, sub_self, EReal.coe_zero, add_zero]

end Cert.KernelIdeal.Read

end
-- ==== Proof.Chunk.lean ====
module

public import proofs.«01_k».proof.Proof.Read

@[expose] public section

set_option maxRecDepth 16384

noncomputable section

open Idealize.ShloMosaic Idealize.ShloMosaic.TcCoe Idealize.SL.Sem

/-! ## One chunk of one sequence

A chunk that starts from the sums of the positions before it leaves the sums of the positions up to its end, and writes
the state and the output of each of its positions. -/

namespace Cert.KernelIdeal.Chunk

open Cert.KernelIdeal Cert.KernelIdeal.Gen Cert.KernelIdeal.Step Cert.KernelIdeal.Read

/-- The weights the body reads, the five columns out of one table. -/
def pars (bc : ℕ → EReal) (wk wq wv ws : Vec Ideal S64x128 .f32) (w1 w2 : Vec Ideal S64x64 .f32) : Row.Pars where
  γ f := bc f.val
  β f := bc (128 + f.val)
  wk i f := wk (ix2 i f)
  wq i f := wq (ix2 i f)
  wv i f := wv (ix2 i f)
  ws i f := ws (ix2 i f)
  w1 i f := w1 (ix2 i f)
  w2 i f := w2 (ix2 i f)
  b1 i := bc (256 + i.val)
  b2 i := bc (320 + i.val)
  bs i := bc (384 + i.val)

variable (bb : Vec Ideal S448x128 .f32) (bc : ℕ → EReal) (hbb : ∀ r l, bb (ix2 r l) = bc r.val)
  (wk wq wv ws : Vec Ideal S64x128 .f32) (w1 w2 : Vec Ideal S64x64 .f32)
  (x : Vec Ideal S1x256x128 .f32) (rows : ℕ → Fin 128 → EReal) (n : ℕ) (hx : ∀ l f, x (ix3 0 l f) = rows (n + l.val) f)
  (st : Fin 64 → Fin 64 → EReal)

include hbb hx in
theorem xn_at (f : Fin 128) (l : Fin 256) : xnV bb x (ix2 f l) = Row.X (pars bc wk wq wv ws w1 w2) (rows (n + l.val)) f := by
  rw [xnV_apply bb bc hbb, show (fun f => x (ix3 0 l f)) = rows (n + l.val) from funext (hx l)]
  rfl

include hbb hx in
theorem v_at (i : Fin 64) (l : Fin 256) : linV wv (xnV bb x) (ix2 i l) = Row.V (pars bc wk wq wv ws w1 w2) (rows (n + l.val)) i := by
  rw [linV_apply]
  simp only [xn_at bb bc hbb wk wq wv ws w1 w2 x rows n hx]
  rfl

include hbb hx in
theorem k_at (i : Fin 64) (l : Fin 256) : nrmV (linV wk (xnV bb x)) (ix2 i l) = Row.K (pars bc wk wq wv ws w1 w2) (rows (n + l.val)) i := by
  rw [nrmV_apply]
  simp only [linV_apply, xn_at bb bc hbb wk wq wv ws w1 w2 x rows n hx]
  rfl

include hbb hx in
theorem q_at (i : Fin 64) (l : Fin 256) : nrmV (linV wq (xnV bb x)) (ix2 i l) = Row.Q (pars bc wk wq wv ws w1 w2) (rows (n + l.val)) i := by
  rw [nrmV_apply]
  simp only [linV_apply, xn_at bb bc hbb wk wq wv ws w1 w2 x rows n hx]
  rfl

/-- The sums of the first `n` positions, carried as pair sums (in every lane) and as a matrix. -/
def CsAt (P : Row.Pars) (n : ℕ) (cs : Vec Ideal S1x4096x128 .f32) : Prop :=
  ∀ i j c, cs (ix3 0 (pr i j) c) = Row.acc (st i j) (Row.kv P rows i j) n
def CmAt (P : Row.Pars) (n : ℕ) (cm : Vec Ideal S1x64x64 .f32) : Prop :=
  ∀ i j, cm (ix3 0 i j) = Row.acc (st i j) (Row.kv P rows i j) n

variable (u2 : Vec Ideal S256x256 .bf16) (um : Vec Ideal S256x256 .f32)
  (hu : ∀ s l, u2 (ix2 s l) = if s ≤ l then 1 else 0) (hm : ∀ s l, um (ix2 s l) = if s ≤ l then 1 else 0)
  (cs : Vec Ideal S1x4096x128 .f32) (cm : Vec Ideal S1x64x64 .f32)

include hbb hx hu in
theorem s_at (hcs : CsAt rows st (pars bc wk wq wv ws w1 w2) n cs) (i j : Fin 64) (l : Fin 256) :
    sV (linV wv (xnV bb x)) (nrmV (linV wk (xnV bb x))) u2 cs (ix4 0 i j l) = Row.S (pars bc wk wq wv ws w1 w2) rows st i j (n + l.val) := by
  rw [sV_apply _ _ _ _ _ i j l (hcs i j)]
  simp only [v_at bb bc hbb wk wq wv ws w1 w2 x rows n hx, k_at bb bc hbb wk wq wv ws w1 w2 x rows n hx, hu]
  exact Row.acc_chunk (st i j) (Row.kv (pars bc wk wq wv ws w1 w2) rows i j) 256 n l

include hbb hx hu in
theorem cs_at (hcs : CsAt rows st (pars bc wk wq wv ws w1 w2) n cs) :
    CsAt rows st (pars bc wk wq wv ws w1 w2) (n + 256) (csV (linV wv (xnV bb x)) (nrmV (linV wk (xnV bb x))) u2 cs) := by
  intro i j c
  rw [csV_apply, hcs i j c, add_comm]
  simp only [v_at bb bc hbb wk wq wv ws w1 w2 x rows n hx, k_at bb bc hbb wk wq wv ws w1 w2 x rows n hx, hu]
  exact Row.acc_chunk (st i j) (Row.kv (pars bc wk wq wv ws w1 w2) rows i j) 256 n 255

include hbb hx in
theorem cm_at (hcm : CmAt rows st (pars bc wk wq wv ws w1 w2) n cm) :
    CmAt rows st (pars bc wk wq wv ws w1 w2) (n + 256) (cmV (linV wv (xnV bb x)) (nrmV (linV wk (xnV bb x))) cm) := by
  intro i j
  rw [cmV_apply, hcm i j]
  simp only [v_at bb bc hbb wk wq wv ws w1 w2 x rows n hx, k_at bb bc hbb wk wq wv ws w1 w2 x rows n hx]
  exact Row.acc_step (st i j) (Row.kv (pars bc wk wq wv ws w1 w2) rows i j) 256 n

include hbb hx hm in
theorem att_at (hcm : CmAt rows st (pars bc wk wq wv ws w1 w2) n cm) (i : Fin 64) (l : Fin 256) :
    Read.att (linV wv (xnV bb x)) (nrmV (linV wk (xnV bb x))) (nrmV (linV wq (xnV bb x))) cm um i l =
      Row.att (pars bc wk wq wv ws w1 w2) rows st i (n + l.val) := by
  unfold Read.att
  simp only [v_at bb bc hbb wk wq wv ws w1 w2 x rows n hx, k_at bb bc hbb wk wq wv ws w1 w2 x rows n hx,
    q_at bb bc hbb wk wq wv ws w1 w2 x rows n hx, hm, hcm i]
  refine (Row.apply_state _ _ _ _ _ (fun s => ?_) (fun s j => Row.nrm_nonneg _ _) (fun j => Row.nrm_nonneg _ _) (fun j => Row.nrm_ne_top _ _)).trans ?_
  · by_cases h : s ≤ l
    · exact Or.inr (if_pos h)
    · exact Or.inl (if_neg h)
  · refine Finset.sum_congr rfl fun j _ => ?_
    exact congrArg (· * Row.Q (pars bc wk wq wv ws w1 w2) (rows (n + l.val)) j)
      (Row.acc_chunk (st i j) (Row.kv (pars bc wk wq wv ws w1 w2) rows i j) 256 n l)

include hbb hx hm in
theorem y_at (hcm : CmAt rows st (pars bc wk wq wv ws w1 w2) n cm) (i : Fin 64) (l : Fin 256) :
    yV bb (xnV bb x) (linV wv (xnV bb x)) (nrmV (linV wk (xnV bb x))) (nrmV (linV wq (xnV bb x))) um w1 w2 ws cm (ix3 0 i l) =
      Row.Y (pars bc wk wq wv ws w1 w2) rows st i (n + l.val) := by
  rw [yV_apply bb bc hbb]
  simp only [att_at bb bc hbb wk wq wv ws w1 w2 x rows n hx st um hm cm hcm, xn_at bb bc hbb wk wq wv ws w1 w2 x rows n hx]
  rfl

end Cert.KernelIdeal.Chunk

end
-- ==== Proof.Spec.lean ====
module

public import proofs.«01_k».proof.Proof.Math
public import Idealize.ShloMosaic.Lib.Pointwise

@[expose] public section

noncomputable section

open Idealize.ShloMosaic

/-! ## The layer's data out of the argument arrays -/

namespace Cert.Row

/-- The weights, out of the arrays that hold them. -/
def parsOf (a2 a3 a4 : (⟨2, ![64, 128]⟩ : Shape).Idx → EReal) (a5 a6 : (⟨1, ![128]⟩ : Shape).Idx → EReal)
    (a7 : (⟨2, ![64, 64]⟩ : Shape).Idx → EReal) (a8 : (⟨1, ![64]⟩ : Shape).Idx → EReal)
    (a9 : (⟨2, ![64, 64]⟩ : Shape).Idx → EReal) (a10 : (⟨1, ![64]⟩ : Shape).Idx → EReal)
    (a11 : (⟨2, ![64, 128]⟩ : Shape).Idx → EReal) (a12 : (⟨1, ![64]⟩ : Shape).Idx → EReal) : Pars where
  wk i f := a2 (ix2 i f)
  wq i f := a3 (ix2 i f)
  wv i f := a4 (ix2 i f)
  γ f := a5 (ix1 f)
  β f := a6 (ix1 f)
  w1 i f := a7 (ix2 i f)
  b1 i := a8 (ix1 i)
  w2 i f := a9 (ix2 i f)
  b2 i := a10 (ix1 i)
  ws i f := a11 (ix2 i f)
  bs i := a12 (ix1 i)

/-- The input rows of batch `b`, by position. -/
def rowsOf (a0 : (⟨3, ![8, 1024, 128]⟩ : Shape).Idx → EReal) (b : Fin 8) (s : ℕ) (f : Fin 128) : EReal :=
  a0 (ix3 b ⟨s % 1024, Nat.mod_lt _ (by decide)⟩ f)

/-- The state before the first position of batch `b`, as a matrix. -/
def stOf (a1 : (⟨3, ![8, 1, 4096]⟩ : Shape).Idx → EReal) (b : Fin 8) (i j : Fin 64) : EReal :=
  a1 (ix3 b 0 ⟨i.val * 64 + j.val, by omega⟩)

theorem rowsOf_val (a0 : (⟨3, ![8, 1024, 128]⟩ : Shape).Idx → EReal) (b : Fin 8) (t : Fin 1024) (f : Fin 128) :
    rowsOf a0 b t.val f = a0 (ix3 b t f) := by
  unfold rowsOf
  congr 2
  exact Fin.ext (Nat.mod_eq_of_lt t.isLt)

end Cert.Row

end
-- ==== Proof.Entry.lean ====
module

public import proofs.«01_k».proof.Proof.Read
public import proofs.«01_k».proof.Proof.Spec
public import proofs.«01_k».proof.Proof.Gen.KernelIdeal.Frame
public import Idealize.ShloMosaic.Lib.StableHlo.Run

@[expose] public section

set_option maxRecDepth 16384

noncomputable section

open Idealize.ShloMosaic Idealize.ShloMosaic.TcCoe Idealize.SL.Sem

/-! ## What the region finds, and the blocks its windows read -/

namespace Cert.KernelIdeal.Entry

open Cert.KernelIdeal Cert.KernelIdeal.Gen Cert.KernelIdeal.Read Idealize.ShloMosaic.StableHlo

variable (m : (ℓ : Loc nD τ sig) → Buf (Elt Ideal) ℓ) (c : Dev nD)

/-! ### The tables of the host -/

/-- Row `p` marks value feature `p / 64`. -/
def erT : FVec Ideal S4096x64 .bf16 :=
  truncf .bf16 (select (cmpi .eq (Host.shrsi (iotaInDim S4096x64 32 0) (broadcastInDim S4096x64 ![] bcast_S_S4096x64 (constantI S_ 32 6#32))) (iotaInDim S4096x64 32 1))
    (broadcastInDim S4096x64 ![] bcast_S_S4096x64 (constant S_ .f32 0x3F800000#32)) (broadcastInDim S4096x64 ![] bcast_S_S4096x64 (constant S_ .f32 0x00000000#32))) bitsLt_bf16_f32

/-- Row `p` marks the lanes of key feature `p % 64`. -/
def jrT : FVec Ideal S4096x128 .bf16 :=
  truncf .bf16 (select (cmpi .eq (andi (iotaInDim S4096x128 32 0) (broadcastInDim S4096x128 ![] bcast_S_S4096x128 (constantI S_ 32 63#32)))
      (andi (iotaInDim S4096x128 32 1) (broadcastInDim S4096x128 ![] bcast_S_S4096x128 (constantI S_ 32 63#32))))
    (broadcastInDim S4096x128 ![] bcast_S_S4096x128 (constant S_ .f32 0x3F800000#32)) (broadcastInDim S4096x128 ![] bcast_S_S4096x128 (constant S_ .f32 0x00000000#32))) bitsLt_bf16_f32

/-- All ones. -/
def onT : FVec Ideal S128x128 .bf16 := broadcastInDim S128x128 ![] bcast_S_S128x128 (constant S_ .bf16 0x3F80#16)

/-- One on and above the diagonal. -/
def umT : FVec Ideal S256x256 .f32 :=
  select (cmpi .sle (iotaInDim S256x256 32 0) (iotaInDim S256x256 32 1))
    (broadcastInDim S256x256 ![] bcast_S_S256x256 (constant S_ .f32 0x3F800000#32)) (broadcastInDim S256x256 ![] bcast_S_S256x256 (constant S_ .f32 0x00000000#32))

def u2T : FVec Ideal S256x256 .bf16 := truncf .bf16 umT bitsLt_bf16_f32

/-- A vector as a column of every lane. -/
def colT (v : FVec Ideal S128 .f32) : FVec Ideal S128x128 .f32 := broadcastInDim S128x128 ![0, 1] bcast_S128x1_S128x128_0_1 (shapeCast S128x1 v shapeCasts_S128_S128x1)
def colS (v : FVec Ideal S64 .f32) : FVec Ideal S64x128 .f32 := broadcastInDim S64x128 ![0, 1] bcast_S64x1_S64x128_0_1 (shapeCast S64x1 v shapeCasts_S64_S64x1)

theorem V_8 : V m c main_v8 = erT := by
  show StableHlo.after (List.flatten [hostOps0]) _ _ = _
  simp only [hostOps0, List.flatten_cons, List.flatten_nil, List.append_nil]
  after_results_simp <;> rfl

theorem V_19 : V m c main_v19 = jrT := by
  show StableHlo.after (List.flatten [hostOps0]) _ _ = _
  simp only [hostOps0, List.flatten_cons, List.flatten_nil, List.append_nil]
  after_results_simp <;> rfl

theorem V_20 : V m c main_v20 = onT := by
  show StableHlo.after (List.flatten [hostOps0]) _ _ = _
  simp only [hostOps0, List.flatten_cons, List.flatten_nil, List.append_nil]
  after_results_simp <;> rfl

theorem V_27 : V m c main_v27 = u2T := by
  show StableHlo.after (List.flatten [hostOps0]) _ _ = _
  simp only [hostOps0, List.flatten_cons, List.flatten_nil, List.append_nil]
  after_results_simp <;> rfl

theorem V_30 : V m c main_v30 = umT := by
  show StableHlo.after (List.flatten [hostOps0]) _ _ = _
  simp only [hostOps0, List.flatten_cons, List.flatten_nil, List.append_nil]
  after_results_simp <;> rfl

theorem V_31 : V m c main_v31 = shapeCast S8x64x64 (m (c.tc.loc main_arg1)) shapeCasts_S8x1x4096_S8x64x64 := by
  show StableHlo.after (List.flatten [hostOps0]) _ _ = _
  simp only [hostOps0, List.flatten_cons, List.flatten_nil, List.append_nil]
  after_results_simp <;> rfl

theorem V_42 : V m c main_v42 = concatenate S448x128 0 [⟨S128x128, colT (m (c.tc.loc main_arg5))⟩, ⟨S128x128, colT (m (c.tc.loc main_arg6))⟩,
    ⟨S64x128, colS (m (c.tc.loc main_arg8))⟩, ⟨S64x128, colS (m (c.tc.loc main_arg10))⟩, ⟨S64x128, colS (m (c.tc.loc main_arg12))⟩]
    concatenates_S128x128_S128x128_S64x128_S64x128_S64x128_S448x128_d0 := by
  show StableHlo.after (List.flatten [hostOps0]) _ _ = _
  simp only [hostOps0, List.flatten_cons, List.flatten_nil, List.append_nil]
  after_results_simp <;> rfl

/-! ### The tables at an index -/

theorem onT_apply (a b : Fin 128) : onT (ix2 a b) = 1 := by
  pointwise [onT]

/-- A one or a zero by an integer comparison whose answer is known. -/
theorem sel_ofBool (b : Bool) (p : Prop) [Decidable p] (h : b = true ↔ p) :
    Scalar.select (BitVec.ofBool b) (1 : EReal) 0 = if p then 1 else 0 := by
  unfold Scalar.select
  by_cases hp : p
  · rw [if_pos hp, h.mpr hp]; exact if_pos rfl
  · rw [if_neg hp, Bool.eq_false_iff.mpr (fun e => hp (h.mp e))]; exact if_neg (by decide)

theorem toInt_small (n : ℕ) (h : n < 65536) : (BitVec.ofNat 32 n).toInt = n := by
  rw [BitVec.toInt_eq_toNat_of_lt (by rw [BitVec.toNat_ofNat]; omega), BitVec.toNat_ofNat, Nat.mod_eq_of_lt (by omega)]

theorem umT_apply (a b : Fin 256) : umT (ix2 a b) = if a ≤ b then 1 else 0 := by
  pointwise [umT]
  refine sel_ofBool _ _ ?_
  show (BitVec.sle _ _) = true ↔ _
  rw [BitVec.sle_iff_toInt_le, toInt_small _ (by omega), toInt_small _ (by omega), Fin.le_def]
  exact Int.ofNat_le

theorem u2T_apply (a b : Fin 256) : u2T (ix2 a b) = if a ≤ b then 1 else 0 := umT_apply a b

theorem erT_apply (i j x : Fin 64) : erT (ix2 (pr i j) x) = if x = i then 1 else 0 := by
  pointwise [erT]
  refine sel_ofBool _ _ ?_
  show ((IntOp.shrsi ArithUnit.host (BitVec.ofNat 32 (i.val * 64 + j.val)) 6#32) == BitVec.ofNat 32 x.val) = true ↔ _
  have e : IntOp.shrsi ArithUnit.host (BitVec.ofNat 32 (i.val * 64 + j.val)) 6#32 = BitVec.ofNat 32 i.val := by
    have hi := i.isLt
    have hj := j.isLt
    apply BitVec.eq_of_toInt_eq
    show (BitVec.sshiftRight _ 6).toInt = _
    rw [BitVec.toInt_sshiftRight, toInt_small _ (by omega), toInt_small _ (by omega), Int.shiftRight_eq_div_pow]
    omega
  rw [e, beq_iff_eq]
  constructor
  · intro h
    have := congrArg BitVec.toInt h
    rw [toInt_small _ (by omega), toInt_small _ (by omega)] at this
    exact Fin.ext (by omega)
  · rintro rfl; rfl

theorem and63 (n : ℕ) : IntOp.andi (BitVec.ofNat 32 n) 63#32 = BitVec.ofNat 32 (n % 64) := by
  apply BitVec.eq_of_toNat_eq
  show (BitVec.ofNat 32 n &&& 63#32).toNat = _
  rw [BitVec.toNat_and, BitVec.toNat_ofNat, BitVec.toNat_ofNat, BitVec.toNat_ofNat, show 63 % 2 ^ 32 = 2 ^ 6 - 1 from rfl, Nat.and_two_pow_sub_one_eq_mod]
  omega

theorem jrT_apply (i j : Fin 64) (x : Fin 128) : jrT (ix2 (pr i j) x) = if x.val % 64 = j.val then 1 else 0 := by
  pointwise [jrT]
  refine sel_ofBool _ _ ?_
  show ((IntOp.andi (BitVec.ofNat 32 (i.val * 64 + j.val)) 63#32) == IntOp.andi (BitVec.ofNat 32 x.val) 63#32) = true ↔ _
  rw [and63, and63, beq_iff_eq]
  have hj := j.isLt
  constructor
  · intro h
    have := congrArg BitVec.toInt h
    rw [toInt_small _ (by omega), toInt_small _ (by omega)] at this
    omega
  · intro h
    congr 1
    omega

theorem colT_apply (v : FVec Ideal S128 .f32) (a b : Fin 128) : colT v (ix2 a b) = v (ix1 a) := by
  pointwise [colT]
theorem colS_apply (v : FVec Ideal S64 .f32) (a : Fin 64) (b : Fin 128) : colS v (ix2 a b) = v (ix1 a) := by
  pointwise [colS]

/-- The five columns, one under the other. -/
def bcol (γ β : FVec Ideal S128 .f32) (b1 b2 bs : FVec Ideal S64 .f32) (r : ℕ) : EReal :=
  if h : r < 128 then γ (ix1 ⟨r, h⟩) else if h : r < 256 then β (ix1 ⟨r - 128, by omega⟩) else if h : r < 320 then b1 (ix1 ⟨r - 256, by omega⟩)
  else if h : r < 384 then b2 (ix1 ⟨r - 320, by omega⟩) else if h : r < 448 then bs (ix1 ⟨r - 384, by omega⟩) else 0

theorem bcol_0 (γ β : FVec Ideal S128 .f32) (b1 b2 bs : FVec Ideal S64 .f32) (f : Fin 128) : bcol γ β b1 b2 bs f.val = γ (ix1 f) := dif_pos f.isLt
theorem bcol_128 (γ β : FVec Ideal S128 .f32) (b1 b2 bs : FVec Ideal S64 .f32) (f : Fin 128) : bcol γ β b1 b2 bs (128 + f.val) = β (ix1 f) := by
  unfold bcol
  rw [dif_neg (by omega), dif_pos (by omega)]
  congr 2; exact Fin.ext (by simp)
theorem bcol_256 (γ β : FVec Ideal S128 .f32) (b1 b2 bs : FVec Ideal S64 .f32) (f : Fin 64) : bcol γ β b1 b2 bs (256 + f.val) = b1 (ix1 f) := by
  unfold bcol
  rw [dif_neg (by omega), dif_neg (by omega), dif_pos (by omega)]
  congr 2; exact Fin.ext (by simp)
theorem bcol_320 (γ β : FVec Ideal S128 .f32) (b1 b2 bs : FVec Ideal S64 .f32) (f : Fin 64) : bcol γ β b1 b2 bs (320 + f.val) = b2 (ix1 f) := by
  unfold bcol
  rw [dif_neg (by omega), dif_neg (by omega), dif_neg (by omega), dif_pos (by omega)]
  congr 2; exact Fin.ext (by simp)
theorem bcol_384 (γ β : FVec Ideal S128 .f32) (b1 b2 bs : FVec Ideal S64 .f32) (f : Fin 64) : bcol γ β b1 b2 bs (384 + f.val) = bs (ix1 f) := by
  unfold bcol
  rw [dif_neg (by omega), dif_neg (by omega), dif_neg (by omega), dif_neg (by omega), dif_pos (by omega)]
  congr 2; exact Fin.ext (by simp)

/-- The stacked columns at a row. -/
theorem stack_apply (γ β : FVec Ideal S128 .f32) (b1 b2 bs : FVec Ideal S64 .f32) (r : Fin 448) (l : Fin 128) :
    concatenate S448x128 0 [⟨S128x128, colT γ⟩, ⟨S128x128, colT β⟩, ⟨S64x128, colS b1⟩, ⟨S64x128, colS b2⟩, ⟨S64x128, colS bs⟩]
      concatenates_S128x128_S128x128_S64x128_S64x128_S64x128_S448x128_d0 (ix2 r l) = bcol γ β b1 b2 bs r.val := by
  generalize hγ : colT γ = Γ
  generalize hβ : colT β = B
  generalize h1 : colS b1 = B1
  generalize h2 : colS b2 = B2
  generalize hs : colS bs = BS
  pointwise
  subst hγ hβ h1 h2 hs
  have hr := r.isLt
  by_cases h1 : r.val < 128
  · exact (dif_pos h1).trans ((colT_apply γ ⟨r.val, h1⟩ l).trans (bcol_0 γ β b1 b2 bs ⟨r.val, h1⟩).symm)
  refine (dif_neg h1).trans ?_
  by_cases h2 : r.val - 128 < 128
  · refine (dif_pos h2).trans ((colT_apply β ⟨r.val - 128, h2⟩ l).trans ((bcol_128 γ β b1 b2 bs ⟨r.val - 128, h2⟩).symm.trans (congrArg _ ?_)))
    dsimp only; omega
  refine (dif_neg h2).trans ?_
  by_cases h3 : r.val - 128 - 128 < 64
  · refine (dif_pos h3).trans ((colS_apply b1 ⟨r.val - 128 - 128, h3⟩ l).trans ((bcol_256 γ β b1 b2 bs ⟨r.val - 128 - 128, h3⟩).symm.trans (congrArg _ ?_)))
    dsimp only; omega
  refine (dif_neg h3).trans ?_
  by_cases h4 : r.val - 128 - 128 - 64 < 64
  · refine (dif_pos h4).trans ((colS_apply b2 ⟨r.val - 128 - 128 - 64, h4⟩ l).trans ((bcol_320 γ β b1 b2 bs ⟨r.val - 128 - 128 - 64, h4⟩).symm.trans (congrArg _ ?_)))
    dsimp only; omega
  refine (dif_neg h4).trans ((colS_apply bs ⟨r.val - 128 - 128 - 64 - 64, by omega⟩ l).trans ((bcol_384 γ β b1 b2 bs ⟨r.val - 128 - 128 - 64 - 64, by omega⟩).symm.trans (congrArg _ ?_)))
  dsimp only; omega

theorem cast_apply (X : FVec Ideal S8x1x4096 .f32) (b : Fin 8) (i j : Fin 64) :
    shapeCast S8x64x64 X shapeCasts_S8x1x4096_S8x64x64 (ix3 b i j) = X (ix3 b 0 (pr i j)) := by
  pointwise

theorem V31_apply (b : Fin 8) (i j : Fin 64) :
    shapeCast S8x64x64 (m (c.tc.loc main_arg1)) shapeCasts_S8x1x4096_S8x64x64 (ix3 b i j) = Row.stOf (m (c.tc.loc main_arg1)) b i j :=
  cast_apply _ b i j

end Cert.KernelIdeal.Entry

end
-- ==== Proof.Blocks.lean ====
module

public import proofs.«01_k».proof.Proof.Entry

@[expose] public section

set_option maxRecDepth 16384

noncomputable section

open Idealize.ShloMosaic Idealize.ShloMosaic.TcCoe Idealize.SL.Sem

/-! ## The blocks the region's windows read -/

namespace Cert.KernelIdeal.Entry

open Cert.KernelIdeal Cert.KernelIdeal.Gen Cert.KernelIdeal.Read

variable (m : (ℓ : Loc nD τ sig) → Buf (Elt Ideal) ℓ) (c : Dev nD)

theorem blk_2 (t : Fin cfg0.N) : iblk m c 2 t = V m c main_arg2 := by
  have hz' : (fun a => win0_2.index t a * main_arg2.ty.shape.size a) = fun _ => 0 := funext fun a => by fin_cases a <;> rfl
  exact Memref.read_access_unit_zero (Elt Ideal) main_arg2 hz' (fun a => by rw [congrFun hz' a]; simp) (V m c main_arg2)
theorem blk_3 (t : Fin cfg0.N) : iblk m c 3 t = V m c main_arg3 := by
  have hz' : (fun a => win0_3.index t a * main_arg3.ty.shape.size a) = fun _ => 0 := funext fun a => by fin_cases a <;> rfl
  exact Memref.read_access_unit_zero (Elt Ideal) main_arg3 hz' (fun a => by rw [congrFun hz' a]; simp) (V m c main_arg3)
theorem blk_4 (t : Fin cfg0.N) : iblk m c 4 t = V m c main_arg4 := by
  have hz' : (fun a => win0_4.index t a * main_arg4.ty.shape.size a) = fun _ => 0 := funext fun a => by fin_cases a <;> rfl
  exact Memref.read_access_unit_zero (Elt Ideal) main_arg4 hz' (fun a => by rw [congrFun hz' a]; simp) (V m c main_arg4)
theorem blk_5 (t : Fin cfg0.N) : iblk m c 5 t = V m c main_v42 := by
  have hz' : (fun a => win0_5.index t a * main_v42.ty.shape.size a) = fun _ => 0 := funext fun a => by fin_cases a <;> rfl
  exact Memref.read_access_unit_zero (Elt Ideal) main_v42 hz' (fun a => by rw [congrFun hz' a]; simp) (V m c main_v42)
theorem blk_6 (t : Fin cfg0.N) : iblk m c 6 t = V m c main_arg7 := by
  have hz' : (fun a => win0_6.index t a * main_arg7.ty.shape.size a) = fun _ => 0 := funext fun a => by fin_cases a <;> rfl
  exact Memref.read_access_unit_zero (Elt Ideal) main_arg7 hz' (fun a => by rw [congrFun hz' a]; simp) (V m c main_arg7)
theorem blk_7 (t : Fin cfg0.N) : iblk m c 7 t = V m c main_arg9 := by
  have hz' : (fun a => win0_7.index t a * main_arg9.ty.shape.size a) = fun _ => 0 := funext fun a => by fin_cases a <;> rfl
  exact Memref.read_access_unit_zero (Elt Ideal) main_arg9 hz' (fun a => by rw [congrFun hz' a]; simp) (V m c main_arg9)
theorem blk_8 (t : Fin cfg0.N) : iblk m c 8 t = V m c main_arg11 := by
  have hz' : (fun a => win0_8.index t a * main_arg11.ty.shape.size a) = fun _ => 0 := funext fun a => by fin_cases a <;> rfl
  exact Memref.read_access_unit_zero (Elt Ideal) main_arg11 hz' (fun a => by rw [congrFun hz' a]; simp) (V m c main_arg11)
theorem blk_9 (t : Fin cfg0.N) : iblk m c 9 t = V m c main_v8 := by
  have hz' : (fun a => win0_9.index t a * main_v8.ty.shape.size a) = fun _ => 0 := funext fun a => by fin_cases a <;> rfl
  exact Memref.read_access_unit_zero (Elt Ideal) main_v8 hz' (fun a => by rw [congrFun hz' a]; simp) (V m c main_v8)
theorem blk_10 (t : Fin cfg0.N) : iblk m c 10 t = V m c main_v19 := by
  have hz' : (fun a => win0_10.index t a * main_v19.ty.shape.size a) = fun _ => 0 := funext fun a => by fin_cases a <;> rfl
  exact Memref.read_access_unit_zero (Elt Ideal) main_v19 hz' (fun a => by rw [congrFun hz' a]; simp) (V m c main_v19)
theorem blk_11 (t : Fin cfg0.N) : iblk m c 11 t = V m c main_v20 := by
  have hz' : (fun a => win0_11.index t a * main_v20.ty.shape.size a) = fun _ => 0 := funext fun a => by fin_cases a <;> rfl
  exact Memref.read_access_unit_zero (Elt Ideal) main_v20 hz' (fun a => by rw [congrFun hz' a]; simp) (V m c main_v20)
theorem blk_12 (t : Fin cfg0.N) : iblk m c 12 t = V m c main_v27 := by
  have hz' : (fun a => win0_12.index t a * main_v27.ty.shape.size a) = fun _ => 0 := funext fun a => by fin_cases a <;> rfl
  exact Memref.read_access_unit_zero (Elt Ideal) main_v27 hz' (fun a => by rw [congrFun hz' a]; simp) (V m c main_v27)
theorem blk_13 (t : Fin cfg0.N) : iblk m c 13 t = V m c main_v30 := by
  have hz' : (fun a => win0_13.index t a * main_v30.ty.shape.size a) = fun _ => 0 := funext fun a => by fin_cases a <;> rfl
  exact Memref.read_access_unit_zero (Elt Ideal) main_v30 hz' (fun a => by rw [congrFun hz' a]; simp) (V m c main_v30)

/-- The batch of plane `g` at point `t`. -/
def bat (t : Fin cfg0.N) (g : Fin 4) : Fin 8 := ⟨4 * (t.val / 4) + g.val, by have := t.isLt.trans_eq N_0; omega⟩

theorem idx_0 (t : Fin cfg0.N) : win0_0.index t 0 = t.val / 4 ∧ win0_0.index t 1 = t.val % 4 ∧ win0_0.index t 2 = 0 := by
  rcases fin_N0 t with rfl | rfl | rfl | rfl | rfl | rfl | rfl | rfl <;> decide
theorem idx_1 (t : Fin cfg0.N) : win0_1.index t 0 = t.val / 4 ∧ win0_1.index t 1 = 0 ∧ win0_1.index t 2 = 0 := by
  rcases fin_N0 t with rfl | rfl | rfl | rfl | rfl | rfl | rfl | rfl <;> decide

theorem blk_0 (t : Fin cfg0.N) (g : Fin 4) (l : Fin 256) (f : Fin 128) :
    iblk m c 0 t (ValueIdx.ix3 g l f) = Row.rowsOf (m (c.tc.loc main_arg0)) (bat t g) (256 * (t.val % 4) + l.val) f := by
  have hi := idx_0 t
  unfold iblk Row.rowsOf
  rw [View.read_apply, ix3_eq_valueIdx]
  show V m c main_arg0 _ = m (c.tc.loc main_arg0) _
  rw [V_main_arg0]
  congr 1
  funext a
  apply Fin.ext
  match a with
  | ⟨0, _⟩ => show win0_0.index t 0 * 4 + 1 * g.val = 4 * (t.val / 4) + g.val; rw [hi.1]; omega
  | ⟨1, _⟩ => show win0_0.index t 1 * 256 + 1 * l.val = (256 * (t.val % 4) + l.val) % 1024; rw [hi.2.1]; omega
  | ⟨2, _⟩ => show win0_0.index t 2 * 128 + 1 * f.val = f.val; rw [hi.2.2]; omega

theorem blk_1 (t : Fin cfg0.N) (g : Fin 4) (i j : Fin 64) :
    iblk m c 1 t (ValueIdx.ix3 g i j) = Row.stOf (m (c.tc.loc main_arg1)) (bat t g) i j := by
  have hi := idx_1 t
  rw [← V31_apply m c (bat t g) i j, ← V_31 m c]
  unfold iblk
  rw [View.read_apply, ix3_eq_valueIdx]
  show V m c main_v31 _ = V m c main_v31 _
  congr 1
  funext a
  apply Fin.ext
  match a with
  | ⟨0, _⟩ => show win0_1.index t 0 * 4 + 1 * g.val = 4 * (t.val / 4) + g.val; rw [hi.1]; omega
  | ⟨1, _⟩ => show win0_1.index t 1 * 64 + 1 * i.val = i.val; rw [hi.2.1]; omega
  | ⟨2, _⟩ => show win0_1.index t 2 * 64 + 1 * j.val = j.val; rw [hi.2.2]; omega

end Cert.KernelIdeal.Entry

end
-- ==== Proof.Points.lean ====
module

public import proofs.«01_k».proof.Proof.StepA
public import proofs.«01_k».proof.Proof.Chunk
public import proofs.«01_k».proof.Proof.Blocks

@[expose] public section

set_option maxRecDepth 16384

noncomputable section

open Idealize.ShloMosaic Idealize.ShloMosaic.TcCoe Idealize.SL.Sem

/-! ## What the body leaves at each point -/

namespace Cert.KernelIdeal.Points

open Cert.KernelIdeal Cert.KernelIdeal.Gen Cert.KernelIdeal.Read Cert.KernelIdeal.Step Cert.KernelIdeal.Entry Cert.Plane

variable (m : (ℓ : Loc nD τ sig) → Buf (Elt Ideal) ℓ) (c : Dev nD)

abbrev P : Row.Pars := Row.parsOf (m (c.tc.loc main_arg2)) (m (c.tc.loc main_arg3)) (m (c.tc.loc main_arg4)) (m (c.tc.loc main_arg5))
  (m (c.tc.loc main_arg6)) (m (c.tc.loc main_arg7)) (m (c.tc.loc main_arg8)) (m (c.tc.loc main_arg9)) (m (c.tc.loc main_arg10)) (m (c.tc.loc main_arg11)) (m (c.tc.loc main_arg12))
abbrev rows (b : Fin 8) : ℕ → Fin 128 → EReal := Row.rowsOf (m (c.tc.loc main_arg0)) b
abbrev st (b : Fin 8) : Fin 64 → Fin 64 → EReal := Row.stOf (m (c.tc.loc main_arg1)) b

/-- The stacked columns, by row. -/
abbrev bc : ℕ → EReal := bcol (m (c.tc.loc main_arg5)) (m (c.tc.loc main_arg6)) (m (c.tc.loc main_arg8)) (m (c.tc.loc main_arg10)) (m (c.tc.loc main_arg12))

theorem pars_eq (t : Fin cfg0.N) : Chunk.pars (bc m c) (iblk m c 2 t) (iblk m c 3 t) (iblk m c 4 t) (iblk m c 8 t) (iblk m c 6 t) (iblk m c 7 t) = P m c := by
  rw [blk_2, blk_3, blk_4, blk_8, blk_6, blk_7, V_main_arg2, V_main_arg3, V_main_arg4, V_main_arg11, V_main_arg7, V_main_arg9]
  unfold Chunk.pars P Row.parsOf
  simp only [bcol_0, bcol_128, bcol_256, bcol_320, bcol_384]

theorem hbb (t : Fin cfg0.N) (r : Fin 448) (l : Fin 128) : iblk m c 5 t (ix2 r l) = bc m c r.val := by
  rw [blk_5, V_42]
  exact stack_apply _ _ _ _ _ r l

theorem hu (t : Fin cfg0.N) (a b : Fin 256) : iblk m c 12 t (ix2 a b) = if a ≤ b then (1 : EReal) else 0 := by
  rw [blk_12, V_27]
  exact u2T_apply a b

theorem hm (t : Fin cfg0.N) (a b : Fin 256) : iblk m c 13 t (ix2 a b) = if a ≤ b then (1 : EReal) else 0 := by
  rw [blk_13, V_30]
  exact umT_apply a b

theorem hx (t : Fin cfg0.N) (g : Fin 4) (l : Fin 256) (f : Fin 128) :
    pl3 (α := EReal) (iblk m c 0 t) g (ix3 0 l f) = rows m c (bat t g) (256 * (t.val % 4) + l.val) f := by
  rw [ix3_eq_valueIdx]
  exact blk_0 m c t g l f

theorem hst (t : Fin cfg0.N) (g : Fin 4) (i j : Fin 64) :
    pl3 (α := EReal) (iblk m c 1 t) g (ix3 0 i j) = st m c (bat t g) i j := by
  rw [ix3_eq_valueIdx]
  exact blk_1 m c t g i j

section
variable (t : Fin cfg0.N) (cs : Fin 4 → Vec Ideal S1x4096x128 .f32) (cm : Fin 4 → Vec Ideal S1x64x64 .f32)
  (hcs : ∀ g, Chunk.CsAt (rows m c (bat t g)) (st m c (bat t g)) (P m c) (256 * (t.val % 4)) (cs g))
  (hcm : ∀ g, Chunk.CmAt (rows m c (bat t g)) (st m c (bat t g)) (P m c) (256 * (t.val % 4)) (cm g))

include hcm in
theorem y_of (g : Fin 4) (i : Fin 64) (l : Fin 256) :
    yAll (F := Ideal) (iblk m c 0 t) (iblk m c 2 t) (iblk m c 3 t) (iblk m c 4 t) (iblk m c 5 t) (iblk m c 6 t) (iblk m c 7 t) (iblk m c 8 t) (iblk m c 13 t) cm (ValueIdx.ix3 g i l) =
      Row.Y (P m c) (rows m c (bat t g)) (st m c (bat t g)) i (256 * (t.val % 4) + l.val) := by
  rw [← pars_eq m c t] at hcm ⊢
  refine Eq.trans ?_ (Chunk.y_at (iblk m c 5 t) (bc m c) (hbb m c t) (iblk m c 2 t) (iblk m c 3 t) (iblk m c 4 t) (iblk m c 8 t) (iblk m c 6 t) (iblk m c 7 t)
    (pl3 (iblk m c 0 t) g) (rows m c (bat t g)) (256 * (t.val % 4)) (hx m c t g) (st m c (bat t g)) (iblk m c 13 t) (hm m c t) (cm g) (hcm g) i l)
  rw [ix3_eq_valueIdx]
  rfl

include hcs in
theorem s_of (g : Fin 4) (i j : Fin 64) (l : Fin 256) :
    sAll (F := Ideal) (iblk m c 0 t) (iblk m c 2 t) (iblk m c 4 t) (iblk m c 5 t) (iblk m c 12 t) cs (ValueIdx.ix4 g i j l) =
      Row.S (P m c) (rows m c (bat t g)) (st m c (bat t g)) i j (256 * (t.val % 4) + l.val) := by
  rw [← pars_eq m c t] at hcs ⊢
  refine Eq.trans ?_ (Chunk.s_at (iblk m c 5 t) (bc m c) (hbb m c t) (iblk m c 2 t) (iblk m c 3 t) (iblk m c 4 t) (iblk m c 8 t) (iblk m c 6 t) (iblk m c 7 t)
    (pl3 (iblk m c 0 t) g) (rows m c (bat t g)) (256 * (t.val % 4)) (hx m c t g) (st m c (bat t g)) (iblk m c 12 t) (hu m c t) (cs g) (hcs g) i j l)
  rw [ix4_eq_valueIdx]
  rfl

include hcs in
theorem cs_of (g : Fin 4) : Chunk.CsAt (rows m c (bat t g)) (st m c (bat t g)) (P m c) (256 * (t.val % 4) + 256)
    (pl3 (csAll (F := Ideal) (iblk m c 0 t) (iblk m c 2 t) (iblk m c 4 t) (iblk m c 5 t) (iblk m c 12 t) cs) g) := by
  rw [← pars_eq m c t] at hcs ⊢
  have h := Chunk.cs_at (iblk m c 5 t) (bc m c) (hbb m c t) (iblk m c 2 t) (iblk m c 3 t) (iblk m c 4 t) (iblk m c 8 t) (iblk m c 6 t) (iblk m c 7 t)
    (pl3 (iblk m c 0 t) g) (rows m c (bat t g)) (256 * (t.val % 4)) (hx m c t g) (st m c (bat t g)) (iblk m c 12 t) (hu m c t) (cs g) (hcs g)
  intro i j d
  refine Eq.trans ?_ (h i j d)
  rw [ix3_eq_valueIdx]
  rfl

include hcm in
theorem cm_of (g : Fin 4) : Chunk.CmAt (rows m c (bat t g)) (st m c (bat t g)) (P m c) (256 * (t.val % 4) + 256)
    (pl3 (cmAll (F := Ideal) (iblk m c 0 t) (iblk m c 2 t) (iblk m c 4 t) (iblk m c 5 t) cm) g) := by
  rw [← pars_eq m c t] at hcm ⊢
  have h := Chunk.cm_at (iblk m c 5 t) (bc m c) (hbb m c t) (iblk m c 2 t) (iblk m c 3 t) (iblk m c 4 t) (iblk m c 8 t) (iblk m c 6 t) (iblk m c 7 t)
    (pl3 (iblk m c 0 t) g) (rows m c (bat t g)) (256 * (t.val % 4)) (hx m c t g) (st m c (bat t g)) (cm g) (hcm g)
  intro i j
  refine Eq.trans ?_ (h i j)
  rw [ix3_eq_valueIdx]
  rfl
end

/-- A state entry is not the positive infinity. -/
def Below : Prop := ∀ (b : Fin 8) (i j : Fin 64), st m c b i j ≠ ⊤

/-- What a point leaves, by its position `p` in the run of its four batches. -/
structure At (t : Fin cfg0.N) (o : Vec Ideal S4x64x256 .f32 × Vec Ideal S4x64x64x256 .f32 × Vec Ideal S4x4096x128 .f32 × Vec Ideal S4x64x64 .f32) : Prop where
  y : ∀ (g : Fin 4) (i : Fin 64) (l : Fin 256), o.1 (ValueIdx.ix3 g i l) = Row.Y (P m c) (rows m c (bat t g)) (st m c (bat t g)) i (256 * (t.val % 4) + l.val)
  s : ∀ (g : Fin 4) (i j : Fin 64) (l : Fin 256), o.2.1 (ValueIdx.ix4 g i j l) = Row.S (P m c) (rows m c (bat t g)) (st m c (bat t g)) i j (256 * (t.val % 4) + l.val)
  cs : ∀ g : Fin 4, Chunk.CsAt (rows m c (bat t g)) (st m c (bat t g)) (P m c) (256 * (t.val % 4) + 256) (pl3 o.2.2.1 g)
  cm : ∀ g : Fin 4, Chunk.CmAt (rows m c (bat t g)) (st m c (bat t g)) (P m c) (256 * (t.val % 4) + 256) (pl3 o.2.2.2 g)

theorem cs0_at (hb : Below m c) (t : Fin cfg0.N) (h0 : t.val % 4 = 0) : ∀ g, Chunk.CsAt (rows m c (bat t g)) (st m c (bat t g)) (P m c) (256 * (t.val % 4))
    (cs0V (F := Ideal) (pl3 (iblk m c 1 t) g) (iblk m c 9 t) (iblk m c 10 t) (iblk m c 11 t)) := by
  intro g i j d
  have her : ∀ i j x, iblk m c 9 t (ix2 (pr i j) x) = if x = i then (1 : EReal) else 0 := by
    intro i j x
    rw [blk_9, V_8]
    exact erT_apply i j x
  have hjr : ∀ (i j : Fin 64) (d : Fin 128), iblk m c 10 t (ix2 (pr i j) d) = if d.val % 64 = j.val then (1 : EReal) else 0 := by
    intro i j d
    rw [blk_10, V_19]
    exact jrT_apply i j d
  have hon : ∀ a b : Fin 128, iblk m c 11 t (ix2 a b) = (1 : EReal) := by
    intro a b
    rw [blk_11, V_20]
    exact onT_apply a b
  have e := hst m c t g i j
  rw [h0]
  refine Eq.trans (b := pl3 (α := EReal) (iblk m c 1 t) g (ix3 0 i j)) ?_ (e.trans (Row.acc_zero _ _).symm)
  exact cs0V_apply (pl3 (α := EReal) (iblk m c 1 t) g) (iblk m c 9 t) (iblk m c 10 t) (iblk m c 11 t) her hjr hon i j d (by rw [e]; exact hb _ _ _)

theorem cm0_at (t : Fin cfg0.N) (h0 : t.val % 4 = 0) : ∀ g, Chunk.CmAt (rows m c (bat t g)) (st m c (bat t g)) (P m c) (256 * (t.val % 4)) (pl3 (α := EReal) (iblk m c 1 t) g) := by
  intro g i j
  rw [h0]
  exact (hst m c t g i j).trans (Row.acc_zero _ _).symm

set_option maxHeartbeats 4000000 in
theorem outs_A (t : Fin cfg0.N) (h0 : t.val % 4 = 0) : outsAt0 m c t.val t.isLt =
    (yAll (F := Ideal) (iblk m c 0 t) (iblk m c 2 t) (iblk m c 3 t) (iblk m c 4 t) (iblk m c 5 t) (iblk m c 6 t) (iblk m c 7 t) (iblk m c 8 t) (iblk m c 13 t) (pl3 (iblk m c 1 t)),
      sAll (F := Ideal) (iblk m c 0 t) (iblk m c 2 t) (iblk m c 4 t) (iblk m c 5 t) (iblk m c 12 t) (fun g => cs0V (pl3 (iblk m c 1 t) g) (iblk m c 9 t) (iblk m c 10 t) (iblk m c 11 t)),
      csAll (F := Ideal) (iblk m c 0 t) (iblk m c 2 t) (iblk m c 4 t) (iblk m c 5 t) (iblk m c 12 t) (fun g => cs0V (pl3 (iblk m c 1 t) g) (iblk m c 9 t) (iblk m c 10 t) (iblk m c 11 t)),
      cmAll (F := Ideal) (iblk m c 0 t) (iblk m c 2 t) (iblk m c 4 t) (iblk m c 5 t) (pl3 (iblk m c 1 t))) := by
  rw [outsAt0_A m c t h0, out0_A_14_eq, out0_A_15_eq, sout0_A_0_eq, sout0_A_1_eq]

set_option maxHeartbeats 4000000 in
theorem at_A (hb : Below m c) (t : Fin cfg0.N) (h0 : t.val % 4 = 0) : At m c t (outsAt0 m c t.val t.isLt) := by
  rw [outs_A m c t h0]
  exact ⟨y_of m c t _ (cm0_at m c t h0), s_of m c t _ (cs0_at m c hb t h0), cs_of m c t _ (cs0_at m c hb t h0), cm_of m c t _ (cm0_at m c t h0)⟩

theorem at_B (t t' : Fin cfg0.N) (ht : t.val = t'.val + 1) (h0 : ¬ t.val % 4 = 0) (h : At m c t' (outsAt0 m c t'.val t'.isLt)) :
    At m c t (outsAt0 m c t.val t.isLt) := by
  obtain ⟨n', hn'⟩ := t'
  obtain ⟨n, hn⟩ := t
  obtain rfl : n = n' + 1 := ht
  have hbat : ∀ g, bat ⟨n', hn'⟩ g = bat ⟨n' + 1, hn⟩ g := fun g => Fin.ext (by show 4 * (n' / 4) + g.val = 4 * ((n' + 1) / 4) + g.val; dsimp only at h0; omega)
  have hpos : 256 * (n' % 4) + 256 = 256 * ((n' + 1) % 4) := by dsimp only at h0; omega
  have hcs : ∀ g, Chunk.CsAt (rows m c (bat ⟨n' + 1, hn⟩ g)) (st m c (bat ⟨n' + 1, hn⟩ g)) (P m c) (256 * ((n' + 1) % 4)) (pl3 (outsAt0 m c n' hn').2.2.1 g) := by
    intro g
    rw [← hbat g, ← hpos]
    exact h.cs g
  have hcm : ∀ g, Chunk.CmAt (rows m c (bat ⟨n' + 1, hn⟩ g)) (st m c (bat ⟨n' + 1, hn⟩ g)) (P m c) (256 * ((n' + 1) % 4)) (pl3 (outsAt0 m c n' hn').2.2.2 g) := by
    intro g
    rw [← hbat g, ← hpos]
    exact h.cm g
  rw [outsAt0_B m c ⟨n' + 1, hn⟩ h0, out0_B_14_eq, out0_B_15_eq, sout0_B_0_eq, sout0_B_1_eq]
  exact ⟨y_of m c ⟨n' + 1, hn⟩ _ hcm, s_of m c ⟨n' + 1, hn⟩ _ hcs, cs_of m c ⟨n' + 1, hn⟩ _ hcs, cm_of m c ⟨n' + 1, hn⟩ _ hcm⟩

theorem at_all (hb : Below m c) : ∀ (n : ℕ) (h : n < cfg0.N), At m c ⟨n, h⟩ (outsAt0 m c n h)
  | 0, h => at_A m c hb ⟨0, h⟩ rfl
  | n + 1, h => by
    by_cases h0 : (n + 1) % 4 = 0
    · exact at_A m c hb ⟨n + 1, h⟩ h0
    · exact at_B m c ⟨n + 1, h⟩ ⟨n, Nat.lt_of_succ_lt h⟩ rfl h0 (at_all hb n (Nat.lt_of_succ_lt h))

end Cert.KernelIdeal.Points

end
-- ==== Proof.Arrays.lean ====
module

public import proofs.«01_k».proof.Proof.Points
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

/-! ## What the two result arrays end holding -/

namespace Cert.KernelIdeal.Arrays

open Cert.KernelIdeal Cert.KernelIdeal.Gen Cert.KernelIdeal.Entry Cert.KernelIdeal.Points

variable (m : (ℓ : Loc nD τ sig) → Buf (Elt Ideal) ℓ) (c : Dev nD)

/-- The outputs, position last. -/
def yArr : FVec Ideal S8x64x1024 .f32 := fun y => Row.Y (P m c) (rows m c (y 0)) (st m c (y 0)) (y 1) (y 2).val
/-- The states, position last. -/
def sArr : FVec Ideal S8x64x64x1024 .f32 := fun y => Row.S (P m c) (rows m c (y 0)) (st m c (y 0)) (y 1) (y 2) (y 3).val

theorem idx_14 (t : Fin cfg0.N) : win0_14.index t 0 = t.val / 4 ∧ win0_14.index t 1 = 0 ∧ win0_14.index t 2 = t.val % 4 := by
  rcases fin_N0 t with rfl | rfl | rfl | rfl | rfl | rfl | rfl | rfl <;> decide
theorem idx_15 (t : Fin cfg0.N) : win0_15.index t 0 = t.val / 4 ∧ win0_15.index t 1 = 0 ∧ win0_15.index t 2 = 0 ∧ win0_15.index t 3 = t.val % 4 := by
  rcases fin_N0 t with rfl | rfl | rfl | rfl | rfl | rfl | rfl | rfl <;> decide

theorem emb_14 (t : Fin cfg0.N) (g : Fin 4) (i : Fin 64) (l : Fin 256) :
    ((cfg0.win 14).blk t).view.emb (ValueIdx.ix3 g i l) = ValueIdx.ix3 (bat t g) i ⟨256 * (t.val % 4) + l.val, by omega⟩ := by
  have hi := idx_14 t
  funext a
  apply Fin.ext
  match a with
  | ⟨0, _⟩ => show win0_14.index t 0 * 4 + 1 * g.val = 4 * (t.val / 4) + g.val; rw [hi.1]; omega
  | ⟨1, _⟩ => show win0_14.index t 1 * 64 + 1 * i.val = i.val; rw [hi.2.1]; omega
  | ⟨2, _⟩ => show win0_14.index t 2 * 256 + 1 * l.val = 256 * (t.val % 4) + l.val; rw [hi.2.2]; omega

theorem emb_15 (t : Fin cfg0.N) (g : Fin 4) (i j : Fin 64) (l : Fin 256) :
    ((cfg0.win 15).blk t).view.emb (ValueIdx.ix4 g i j l) = ValueIdx.ix4 (bat t g) i j ⟨256 * (t.val % 4) + l.val, by omega⟩ := by
  have hi := idx_15 t
  funext a
  apply Fin.ext
  match a with
  | ⟨0, _⟩ => show win0_15.index t 0 * 4 + 1 * g.val = 4 * (t.val / 4) + g.val; rw [hi.1]; omega
  | ⟨1, _⟩ => show win0_15.index t 1 * 64 + 1 * i.val = i.val; rw [hi.2.1]; omega
  | ⟨2, _⟩ => show win0_15.index t 2 * 64 + 1 * j.val = j.val; rw [hi.2.2.1]; omega
  | ⟨3, _⟩ => show win0_15.index t 3 * 256 + 1 * l.val = 256 * (t.val % 4) + l.val; rw [hi.2.2.2]; omega

theorem flushed_14 (hb : Below m c) (t : Fin cfg0.N) :
    (dats m 0 c).flushed 14 t = ((cfg0.win 14).blk t).view.read (Elt Ideal) (yArr m c) := by
  show (cfg0.win 14).cut (grid0.coords t) ((dats m 0 c).after 14 t) = _
  rw [after0_14]
  have h := (at_all m c hb t.val t.isLt).y
  generalize (outsAt0 m c t.val t.isLt).1 = o at h ⊢
  funext j
  obtain ⟨g, i, l, rfl⟩ : ∃ (g : Fin 4) (i : Fin 64) (l : Fin 256), j = ValueIdx.ix3 g i l := ⟨j 0, j 1, j 2, ValueIdx.eq_ix3 j⟩
  rw [View.read_apply, emb_14]
  exact h g i l

theorem flushed_15 (hb : Below m c) (t : Fin cfg0.N) :
    (dats m 0 c).flushed 15 t = ((cfg0.win 15).blk t).view.read (Elt Ideal) (sArr m c) := by
  show (cfg0.win 15).cut (grid0.coords t) ((dats m 0 c).after 15 t) = _
  rw [after0_15]
  have h := (at_all m c hb t.val t.isLt).s
  generalize (outsAt0 m c t.val t.isLt).2.1 = o at h ⊢
  funext j
  obtain ⟨g, i, k, l, rfl⟩ : ∃ (g : Fin 4) (i k : Fin 64) (l : Fin 256), j = ValueIdx.ix4 g i k l := ⟨j 0, j 1, j 2, j 3, ValueIdx.eq_ix4 j⟩
  rw [View.read_apply, emb_15]
  exact h g i k l

/-- The point whose block holds batch `b` at position `s`. -/
def pt (b s : ℕ) (hb : b < 8) (hs : s < 1024) : Fin cfg0.N := ⟨4 * (b / 4) + s / 256, by rw [show cfg0.N = 8 from N_0]; omega⟩

theorem final_14 (hb : Below m c) : (dats m 0 c).arrAt 14 cfg0.N = yArr m c :=
  (dats m 0 c).arrAt_eq_of_cover 14 (yArr m c) (fun t _ => flushed_14 m c hb t) fun i => by
    have h0 : (i 0 : Nat) < 8 := (i 0).isLt
    have h1 : (i 1 : Nat) < 64 := (i 1).isLt
    have h2 : (i 2 : Nat) < 1024 := (i 2).isLt
    have ht : (pt (i 0 : Nat) (i 2 : Nat) h0 h2).val = 4 * ((i 0 : Nat) / 4) + (i 2 : Nat) / 256 := rfl
    generalize pt (i 0 : Nat) (i 2 : Nat) h0 h2 = t at ht
    refine ⟨t, flush0_14 t, ?_⟩
    have hi := idx_14 t
    show i ∈ ((View.whole main_v43_0).slice (win0_14.rect t)).set
    rw [View.set_slice_whole, Rect.mem_set_unit]
    intro a
    match a with
    | ⟨0, _⟩ => show win0_14.index t 0 * 4 ≤ (i 0 : Nat) ∧ (i 0 : Nat) < win0_14.index t 0 * 4 + 4; rw [hi.1]; omega
    | ⟨1, _⟩ => show win0_14.index t 1 * 64 ≤ (i 1 : Nat) ∧ (i 1 : Nat) < win0_14.index t 1 * 64 + 64; rw [hi.2.1]; omega
    | ⟨2, _⟩ => show win0_14.index t 2 * 256 ≤ (i 2 : Nat) ∧ (i 2 : Nat) < win0_14.index t 2 * 256 + 256; rw [hi.2.2]; omega

theorem final_15 (hb : Below m c) : (dats m 0 c).arrAt 15 cfg0.N = sArr m c :=
  (dats m 0 c).arrAt_eq_of_cover 15 (sArr m c) (fun t _ => flushed_15 m c hb t) fun i => by
    have h0 : (i 0 : Nat) < 8 := (i 0).isLt
    have h1 : (i 1 : Nat) < 64 := (i 1).isLt
    have h2 : (i 2 : Nat) < 64 := (i 2).isLt
    have h3 : (i 3 : Nat) < 1024 := (i 3).isLt
    have ht : (pt (i 0 : Nat) (i 3 : Nat) h0 h3).val = 4 * ((i 0 : Nat) / 4) + (i 3 : Nat) / 256 := rfl
    generalize pt (i 0 : Nat) (i 3 : Nat) h0 h3 = t at ht
    refine ⟨t, flush0_15 t, ?_⟩
    have hi := idx_15 t
    show i ∈ ((View.whole main_v43_1).slice (win0_15.rect t)).set
    rw [View.set_slice_whole, Rect.mem_set_unit]
    intro a
    match a with
    | ⟨0, _⟩ => show win0_15.index t 0 * 4 ≤ (i 0 : Nat) ∧ (i 0 : Nat) < win0_15.index t 0 * 4 + 4; rw [hi.1]; omega
    | ⟨1, _⟩ => show win0_15.index t 1 * 64 ≤ (i 1 : Nat) ∧ (i 1 : Nat) < win0_15.index t 1 * 64 + 64; rw [hi.2.1]; omega
    | ⟨2, _⟩ => show win0_15.index t 2 * 64 ≤ (i 2 : Nat) ∧ (i 2 : Nat) < win0_15.index t 2 * 64 + 64; rw [hi.2.2.1]; omega
    | ⟨3, _⟩ => show win0_15.index t 3 * 256 ≤ (i 3 : Nat) ∧ (i 3 : Nat) < win0_15.index t 3 * 256 + 256; rw [hi.2.2.2]; omega

/-! ### The host's lines after the region -/

theorem tail_44 (hb : Below m c) : Pipeline.afterTail₀ cfgs (dats m) 0 (V0 m) [hostOps1] c main_v44 =
    transpose S8x1024x64 [0, 2, 1] (yArr m c) transposes_S8x64x1024_S8x1024x64_0_2_1 := by
  rw [← final_14 m c hb, ← Pipeline.withArrays_arr spec0 launch0.win.arr_inj c (V0 m c) (fun w => (dats m 0 c).arrAt w cfg0.N) 14]
  show StableHlo.after (List.flatten [hostOps1]) _ _ = _
  simp only [hostOps1, List.flatten_cons, List.flatten_nil, List.append_nil]
  after_results_simp <;> rfl

theorem tail_45 (hb : Below m c) : Pipeline.afterTail₀ cfgs (dats m) 0 (V0 m) [hostOps1] c main_v45 =
    transpose S8x1024x64x64 [0, 3, 1, 2] (sArr m c) transposes_S8x64x64x1024_S8x1024x64x64_0_3_1_2 := by
  rw [← final_15 m c hb, ← Pipeline.withArrays_arr spec0 launch0.win.arr_inj c (V0 m c) (fun w => (dats m 0 c).arrAt w cfg0.N) 15]
  show StableHlo.after (List.flatten [hostOps1]) _ _ = _
  simp only [hostOps1, List.flatten_cons, List.flatten_nil, List.append_nil]
  after_results_simp <;> rfl

theorem val_44 (X : FVec Ideal S8x64x1024 .f32) (b : Fin 8) (t : Fin 1024) (i : Fin 64) :
    transpose S8x1024x64 [0, 2, 1] X transposes_S8x64x1024_S8x1024x64_0_2_1 (ix3 b t i) = X (ix3 b i t) := by
  pointwise

theorem val_45 (X : FVec Ideal S8x64x64x1024 .f32) (b : Fin 8) (t : Fin 1024) (i j : Fin 64) :
    transpose S8x1024x64x64 [0, 3, 1, 2] X transposes_S8x64x64x1024_S8x1024x64x64_0_3_1_2 (ix4 b t i j) = X (ix4 b i j t) := by
  pointwise

end Cert.KernelIdeal.Arrays

end
-- ==== Proof.Ref.lean ====
module

public import proofs.«01_k».proof.Proof.Spec
public import proofs.«01_k».proof.Proof.Gen.ReferenceIdeal.Run

@[expose] public section

set_option maxRecDepth 16384

noncomputable section

open Idealize.ShloMosaic Idealize.ShloMosaic.TcCoe Idealize.SL.Sem

/-! ## The reference, read at an index over the extended reals -/

namespace Cert.ReferenceIdeal.Read

open Cert.ReferenceIdeal Cert.ReferenceIdeal.Gen

/-! ### Its stages -/

section
variable {F : FTy → Type} [FloatOps F]

/-- The mean of the rows. -/
def muR (x : FVec F S8x1024x128 .f32) : FVec F S8x1024x1 .f32 :=
  Host.divf (broadcastInDim S8x1024x1 ![0, 1] bcast_S8x1024_S8x1024x1_0_1 (Host.reduceAdd x (constant S_ .f32 0x00000000#32) reducesTo_S8x1024x128_S8x1024_d2 h_S_)) (broadcastInDim S8x1024x1 ![] bcast_S_S8x1024x1 (constant S_ .f32 0x43000000#32))

/-- The rows less their mean. -/
def cenR (x : FVec F S8x1024x128 .f32) : FVec F S8x1024x128 .f32 :=
  subf x (broadcastInDim S8x1024x128 ![0, 1, 2] bcast_S8x1024x1_S8x1024x128_0_1_2 (muR x))

/-- The divisor of the variance. -/
def nR : FVec F S_ .f32 := subf (constant S_ .f32 0x43000000#32) (sitofp .f32 (constantI S_ 32 0#32))

/-- The variance of the rows. -/
def varR (x : FVec F S8x1024x128 .f32) : FVec F S8x1024x1 .f32 :=
  select (broadcastInDim S8x1024x1 ![] bcast_S_S8x1024x1 (cmpf .ogt (nR : FVec F S_ .f32) (constant S_ .f32 0x00000000#32)))
    (Host.divf (broadcastInDim S8x1024x1 ![0, 1] bcast_S8x1024_S8x1024x1_0_1 (Host.reduceAdd (mulf (cenR x) (cenR x)) (constant S_ .f32 0x00000000#32) reducesTo_S8x1024x128_S8x1024_d2 h_S_)) (broadcastInDim S8x1024x1 ![] bcast_S_S8x1024x1 nR))
    (broadcastInDim S8x1024x1 ![] bcast_S_S8x1024x1 (id (constant S_ .f32 0x7FC00000#32)))

/-- The normalised rows. -/
def xnR (x : FVec F S8x1024x128 .f32) (g b : FVec F S128 .f32) : FVec F S8x1024x128 .f32 :=
  addf (mulf (mulf (cenR x) (broadcastInDim S8x1024x128 ![0, 1, 2] bcast_S8x1024x1_S8x1024x128_0_1_2 (Host.rsqrt (addf (varR x) (broadcastInDim S8x1024x1 ![] bcast_S_S8x1024x1 (constant S_ .f32 0x3727C5AC#32))))))
    (broadcastInDim S8x1024x128 ![0, 1, 2] bcast_S1x1x128_S8x1024x128_0_1_2 (broadcastInDim S1x1x128 ![2] bcast_S128_S1x1x128_2 g)))
    (broadcastInDim S8x1024x128 ![0, 1, 2] bcast_S1x1x128_S8x1024x128_0_1_2 (broadcastInDim S1x1x128 ![2] bcast_S128_S1x1x128_2 b))

/-- A linear layer of them. -/
def linR (x : FVec F S8x1024x128 .f32) (w : FVec F S64x128 .f32) : FVec F S8x1024x64 .f32 :=
  Host.dotGeneral dot_S8x1024x128_S64x128_S8x1024x64_2_1_01_0_n_n none x w

/-- The negative part cut off. -/
def reluR (p : FVec F S8x1024x64 .f32) : FVec F S8x1024x64 .f32 :=
  maximumf p (broadcastInDim S8x1024x64 ![] bcast_S_S8x1024x64 (constant S_ .f32 0x00000000#32))

/-- Rows divided by their sum. -/
def nrmR (p : FVec F S8x1024x64 .f32) : FVec F S8x1024x64 .f32 :=
  Host.divf (reluR p) (broadcastInDim S8x1024x64 ![0, 1, 2] bcast_S8x1024x1_S8x1024x64_0_1_2 (addf (broadcastInDim S8x1024x1 ![] bcast_S_S8x1024x1 (constant S_ .f32 0x3727C5AC#32)) (broadcastInDim S8x1024x1 ![0, 1] bcast_S8x1024_S8x1024x1_0_1 (Host.reduceAdd (reluR p) (constant S_ .f32 0x00000000#32) reducesTo_S8x1024x64_S8x1024_d2 h_S_))))

/-- The outer products. -/
def kvR (v k : FVec F S8x1024x64 .f32) : FVec F S8x1024x64x64 .f32 :=
  mulf (broadcastInDim S8x1024x64x64 ![0, 1, 2, 3] bcast_S8x1024x64x1_S8x1024x64x64_0_1_2_3 (broadcastInDim S8x1024x64x1 ![0, 1, 2] bcast_S8x1024x64_S8x1024x64x1_0_1_2 v))
    (broadcastInDim S8x1024x64x64 ![0, 1, 2, 3] bcast_S8x1024x1x64_S8x1024x64x64_0_1_2_3 (broadcastInDim S8x1024x1x64 ![0, 1, 3] bcast_S8x1024x64_S8x1024x1x64_0_1_3 k))

/-- Their running sums. -/
def cumR (z : FVec F S8x1024x64x64 .f32) : FVec F S8x1024x64x64 .f32 :=
  Host.reduceWindowAdd ![1, 1024, 1, 1] ![1, 1, 1, 1] ![0, 1023, 0, 0] ![0, 0, 0, 0] z (broadcastInDim S_ ![] bcast_S_S_ (constant S_ .f32 0x00000000#32)) reduceWindows_S8x1024x64x64_S8x1024x64x64_w1s1p0_0_w1024s1p1023_0_w1s1p0_0_w1s1p0_0 h_S_

/-- The states. -/
def sR (z : FVec F S8x1024x64x64 .f32) (st : FVec F S8x1x4096 .f32) : FVec F S8x1024x64x64 .f32 :=
  addf (cumR z) (broadcastInDim S8x1024x64x64 ![0, 1, 2, 3] bcast_S8x1x64x64_S8x1024x64x64_0_1_2_3 (shapeCast _ st shapeCasts_S8x1x4096_S8x1x64x64))

/-- The states applied to the queries. -/
def attR (s : FVec F S8x1024x64x64 .f32) (q : FVec F S8x1024x64 .f32) : FVec F S8x1024x64 .f32 :=
  Host.dotGeneral dot_S8x1024x64x64_S8x1024x64_S8x1024x64_3_2_2_n_01_01 none s q

/-- A layer with a bias. -/
def layR (a : FVec F S8x1024x64 .f32) (w : FVec F S64x64 .f32) (b : FVec F S64 .f32) : FVec F S8x1024x64 .f32 :=
  reluR (addf (Host.dotGeneral dot_S8x1024x64_S64x64_S8x1024x64_2_1_01_0_n_n none a w)
    (broadcastInDim S8x1024x64 ![0, 1, 2] bcast_S1x1x64_S8x1024x64_0_1_2 (broadcastInDim S1x1x64 ![2] bcast_S64_S1x1x64_2 b)))

/-- The output. -/
def yR (h : FVec F S8x1024x64 .f32) (xn : FVec F S8x1024x128 .f32) (ws : FVec F S64x128 .f32) (bs : FVec F S64 .f32) : FVec F S8x1024x64 .f32 :=
  addf (addf h (linR xn ws)) (broadcastInDim S8x1024x64 ![0, 1, 2] bcast_S1x1x64_S8x1024x64_0_1_2 (broadcastInDim S1x1x64 ![2] bcast_S64_S1x1x64_2 bs))

variable (m : (ℓ : Loc nD τ sig) → Buf (Elt F) ℓ) (c : Dev nD)

abbrev XR : FVec F S8x1024x128 .f32 := xnR (m (c.tc.loc main_arg0)) (m (c.tc.loc main_arg5)) (m (c.tc.loc main_arg6))
abbrev SR : FVec F S8x1024x64x64 .f32 := sR (kvR (linR (XR m c) (m (c.tc.loc main_arg4))) (nrmR (linR (XR m c) (m (c.tc.loc main_arg2))))) (m (c.tc.loc main_arg1))
abbrev YR : FVec F S8x1024x64 .f32 :=
  yR (layR (layR (attR (SR m c) (nrmR (linR (XR m c) (m (c.tc.loc main_arg3))))) (m (c.tc.loc main_arg7)) (m (c.tc.loc main_arg8))) (m (c.tc.loc main_arg9)) (m (c.tc.loc main_arg10))) (XR m c) (m (c.tc.loc main_arg11)) (m (c.tc.loc main_arg12))

theorem out1_eq : Value.res_main_v43 m c = SR m c := rfl
theorem out0_eq : Value.res_main_v59 m c = YR m c := rfl

end

/-! ### Each stage at an index -/

theorem muR_apply (x : FVec Ideal S8x1024x128 .f32) (b : Fin 8) (t : Fin 1024) : muR x (ix3 b t 0) = Row.mu (fun f => x (ix3 b t f)) := by
  pointwise [muR]
  rfl

theorem cenR_apply (x : FVec Ideal S8x1024x128 .f32) (b : Fin 8) (t : Fin 1024) (f : Fin 128) : cenR x (ix3 b t f) = x (ix3 b t f) - Row.mu (fun f => x (ix3 b t f)) := by
  unfold cenR
  generalize hM : muR x = M
  pointwise
  subst hM
  rw [muR_apply]

theorem linR_apply (x : FVec Ideal S8x1024x128 .f32) (w : FVec Ideal S64x128 .f32) (b : Fin 8) (t : Fin 1024) (i : Fin 64) :
    linR x w (ix3 b t i) = Row.lin (fun i f => w (ix2 i f)) (fun f => x (ix3 b t f)) i := by
  pointwise [linR]
  unfold Row.lin
  exact Finset.sum_congr rfl fun f _ => mul_comm _ _

theorem reluR_apply (p : FVec Ideal S8x1024x64 .f32) (b : Fin 8) (t : Fin 1024) (i : Fin 64) :
    reluR p (ix3 b t i) = max (p (ix3 b t i)) 0 := by
  pointwise [reluR]

theorem nrmR_apply (p : FVec Ideal S8x1024x64 .f32) (b : Fin 8) (t : Fin 1024) (i : Fin 64) :
    nrmR p (ix3 b t i) = Row.nrm (fun i => p (ix3 b t i)) i := by
  pointwise [nrmR, reluR]
  rfl

theorem kvR_apply (v k : FVec Ideal S8x1024x64 .f32) (b : Fin 8) (t : Fin 1024) (i j : Fin 64) :
    kvR v k (ix4 b t i j) = v (ix3 b t i) * k (ix3 b t j) := by
  pointwise [kvR]

theorem attR_apply (s : FVec Ideal S8x1024x64x64 .f32) (q : FVec Ideal S8x1024x64 .f32) (b : Fin 8) (t : Fin 1024) (i : Fin 64) :
    attR s q (ix3 b t i) = ∑ j, s (ix4 b t i j) * q (ix3 b t j) := by
  pointwise [attR]

theorem layR_apply (a : FVec Ideal S8x1024x64 .f32) (w : FVec Ideal S64x64 .f32) (z : FVec Ideal S64 .f32) (b : Fin 8) (t : Fin 1024) (i : Fin 64) :
    layR a w z (ix3 b t i) = max (∑ o, w (ix2 i o) * a (ix3 b t o) + z (ix1 i)) 0 := by
  pointwise [layR, reluR]
  simp only [mul_comm]

theorem yR_apply (h : FVec Ideal S8x1024x64 .f32) (xn : FVec Ideal S8x1024x128 .f32) (ws : FVec Ideal S64x128 .f32) (bs : FVec Ideal S64 .f32)
    (b : Fin 8) (t : Fin 1024) (i : Fin 64) :
    yR h xn ws bs (ix3 b t i) = h (ix3 b t i) + ∑ f, ws (ix2 i f) * xn (ix3 b t f) + bs (ix1 i) := by
  pointwise [yR, linR]
  simp only [mul_comm]

theorem nR_eq (j : S_.Idx) : (nR : FVec Ideal S_ .f32) j = Row.c128 := by
  pointwise [nR]
  rw [show (FloatOps.sitofp (F := Ideal) FTy.f32 (0#32 : BitVec 32)) = (0 : EReal) from by show (((0#32 : BitVec 32).toInt : ℝ) : EReal) = 0; simp]
  exact sub_zero _

theorem varR_apply (x : FVec Ideal S8x1024x128 .f32) (b : Fin 8) (t : Fin 1024) : varR x (ix3 b t 0) = Row.var (fun f => x (ix3 b t f)) := by
  unfold varR
  generalize hC : cenR x = C
  generalize hN : (nR : FVec Ideal S_ .f32) = N
  pointwise
  subst hC hN
  simp only [cenR_apply, nR_eq]
  rw [if_pos Row.c128_pos]
  rfl

theorem xnR_apply (x : FVec Ideal S8x1024x128 .f32) (g z : FVec Ideal S128 .f32) (b : Fin 8) (t : Fin 1024) (f : Fin 128) :
    xnR x g z (ix3 b t f) = Row.xn (fun f => g (ix1 f)) (fun f => z (ix1 f)) (fun f => x (ix3 b t f)) f := by
  unfold xnR
  generalize hC : cenR x = C
  generalize hN : varR x = N
  pointwise
  subst hC hN
  rw [cenR_apply, varR_apply]
  rfl

/-- A window sum from zero, as a sum over the window. -/
theorem reduceWindow_add {s t u : Shape} (w strides lo hi : Fin s.rank → ℕ) (x : s.Idx → EReal) (h : s.ReduceWindows w strides lo hi t)
    (hu : 0 < u.numel) (j : t.Idx) :
    Host.reduceWindow (· + ·) w strides lo hi x (fun _ : u.Idx => (0 : EReal)) h hu j =
      ∑ k : (⟨s.rank, w⟩ : Shape).Idx,
        (if hin : ∀ a, lo a ≤ (j (a.cast h.1.symm)).val * strides a + (k a).val ∧ (j (a.cast h.1.symm)).val * strides a + (k a).val - lo a < s.size a
          then x (fun a => ⟨(j (a.cast h.1.symm)).val * strides a + (k a).val - lo a, (hin a).2⟩) else 0) := by
  rw [sum_idx_eq_foldl]
  unfold Host.reduceWindow
  dsimp only
  refine congrArg (fun f => List.foldl f 0 _) (funext fun r => funext fun n => congrArg (r + ·) ?_)
  split <;> rfl

/-- The running sum along the positions. -/
theorem cumR_apply (z : FVec Ideal S8x1024x64x64 .f32) (g : ℕ → EReal) (b : Fin 8) (i j : Fin 64)
    (hg : ∀ s : Fin 1024, z (ix4 b s i j) = g s.val) (t : Fin 1024) :
    cumR z (ix4 b t i j) = ∑ s ∈ Finset.range (t.val + 1), g s := by
  have ht := t.isLt
  have hk : cumR z (ix4 b t i j) = ∑ s : Fin 1024, (if 1023 ≤ t.val + s.val then g (t.val + s.val - 1023) else 0) := by
    have h0 : (Ideal.ofBits .f32 0x00000000#32 : EReal) = 0 := Ideal.ofBits_zero_f32
    unfold cumR Host.reduceWindowAdd
    show Host.reduceWindow (· + ·) ![1, 1024, 1, 1] ![1, 1, 1, 1] ![0, 1023, 0, 0] ![0, 0, 0, 0] z (fun _ : S_.Idx => Ideal.ofBits .f32 0x00000000#32)
      reduceWindows_S8x1024x64x64_S8x1024x64x64_w1s1p0_0_w1024s1p1023_0_w1s1p0_0_w1s1p0_0 h_S_ (ix4 b t i j) = _
    rw [h0]
    rw [reduceWindow_add]
    refine (sum_idx4 (n0 := 1) (n1 := 1024) (n2 := 1) (n3 := 1) _).trans ?_
    simp only [Fin.sum_univ_one, Fin.isValue]
    refine Finset.sum_congr rfl fun s _ => ?_
    have hs := s.isLt
    by_cases h : 1023 ≤ t.val + s.val
    · rw [if_pos h, dif_pos, ← hg ⟨t.val + s.val - 1023, by omega⟩]
      · congr 1
        funext a
        apply Fin.ext
        match a with
        | ⟨0, _⟩ => show b.val * 1 + 0 - 0 = b.val; omega
        | ⟨1, _⟩ => show t.val * 1 + s.val - 1023 = t.val + s.val - 1023; omega
        | ⟨2, _⟩ => show i.val * 1 + 0 - 0 = i.val; omega
        | ⟨3, _⟩ => show j.val * 1 + 0 - 0 = j.val; omega
      · intro a
        match a with
        | ⟨0, _⟩ => show 0 ≤ b.val * 1 + 0 ∧ b.val * 1 + 0 - 0 < 8; omega
        | ⟨1, _⟩ => show 1023 ≤ t.val * 1 + s.val ∧ t.val * 1 + s.val - 1023 < 1024; omega
        | ⟨2, _⟩ => show 0 ≤ i.val * 1 + 0 ∧ i.val * 1 + 0 - 0 < 64; omega
        | ⟨3, _⟩ => show 0 ≤ j.val * 1 + 0 ∧ j.val * 1 + 0 - 0 < 64; omega
    · rw [if_neg h, dif_neg]
      intro hin
      have h1 : 1023 ≤ t.val * 1 + s.val := (hin 1).1
      omega
  rw [hk, Fin.sum_univ_eq_sum_range (fun s => if 1023 ≤ t.val + s then g (t.val + s - 1023) else 0) 1024]
  generalize t.val = n at ht ⊢
  rw [show 1024 = (1023 - n) + (n + 1) from by omega, Finset.sum_range_add, Finset.sum_eq_zero, zero_add]
  · refine Finset.sum_congr rfl fun s _ => ?_
    rw [if_pos (by omega), show n + (1023 - n + s) - 1023 = s from by omega]
  · intro s hs
    have := Finset.mem_range.mp hs
    exact if_neg (by omega)

theorem sR_apply (z : FVec Ideal S8x1024x64x64 .f32) (st : FVec Ideal S8x1x4096 .f32) (g : ℕ → EReal) (b : Fin 8) (i j : Fin 64)
    (hg : ∀ s : Fin 1024, z (ix4 b s i j) = g s.val) (t : Fin 1024) :
    sR z st (ix4 b t i j) = Row.acc (Row.stOf st b i j) g (t.val + 1) := by
  unfold sR
  generalize hC : cumR z = C
  pointwise
  subst hC
  rw [cumR_apply z g b i j hg]
  rfl

/-! ### The two results -/

section
variable (m : (ℓ : Loc nD τ sig) → Buf (Elt Ideal) ℓ) (c : Dev nD)

/-- The weights, the input rows and the first state, out of the argument arrays. -/
abbrev pars : Row.Pars :=
  Row.parsOf (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)) (m (c.tc.loc main_arg10)) (m (c.tc.loc main_arg11)) (m (c.tc.loc main_arg12))
abbrev rows (b : Fin 8) : ℕ → Fin 128 → EReal := Row.rowsOf (m (c.tc.loc main_arg0)) b
abbrev st (b : Fin 8) : Fin 64 → Fin 64 → EReal := Row.stOf (m (c.tc.loc main_arg1)) b

theorem XR_apply (b : Fin 8) (t : Fin 1024) (f : Fin 128) : XR m c (ix3 b t f) = Row.X (pars m c) (rows m c b t.val) f := by
  unfold XR
  rw [xnR_apply, show (fun f => (m (c.tc.loc main_arg0) : FVec Ideal S8x1024x128 .f32) (ix3 b t f)) = rows m c b t.val from
    funext fun f => (Row.rowsOf_val _ b t f).symm]
  rfl

theorem SR_apply (b : Fin 8) (t : Fin 1024) (i j : Fin 64) : SR m c (ix4 b t i j) = Row.S (pars m c) (rows m c b) (st m c b) i j t.val := by
  unfold SR
  refine sR_apply _ _ (Row.kv (pars m c) (rows m c b) i j) b i j (fun s => ?_) t
  rw [kvR_apply, linR_apply, nrmR_apply]
  simp only [linR_apply, XR_apply]
  rfl

theorem out1_apply (b : Fin 8) (t : Fin 1024) (i j : Fin 64) :
    Value.res_main_v43 m c (ix4 b t i j) = Row.S (pars m c) (rows m c b) (st m c b) i j t.val := by
  rw [out1_eq]
  exact SR_apply m c b t i j

theorem out0_apply (b : Fin 8) (t : Fin 1024) (i : Fin 64) :
    Value.res_main_v59 m c (ix3 b t i) = Row.Y (pars m c) (rows m c b) (st m c b) i t.val := by
  rw [out0_eq]
  unfold YR
  rw [yR_apply]
  simp only [layR_apply, attR_apply, SR_apply, nrmR_apply, linR_apply, XR_apply]
  rfl

end

end Cert.ReferenceIdeal.Read

end
-- ==== Proof.Value.lean ====
module

public import proofs.«01_k».proof.Defs
public import proofs.«01_k».proof.Proof.Arrays
public import proofs.«01_k».proof.Proof.Ref
public import proofs.«01_k».proof.Proof.Gen.Kernel.Frame
public import Idealize.ShloMosaic.Lib.ReduceAll
public import Idealize.ShloMosaic.Lib.Quiescent

@[expose] public section

set_option maxRecDepth 16384

noncomputable section

open Idealize.ShloMosaic Idealize.ShloMosaic.TcCoe Idealize.SL.Sem

/-! ## The precondition -/

namespace Cert.Pre_state_below_inf

theorem facts : Facts where
  bcast_S_S8x1x4096 := by decide
  reducesTo_S8x1x4096_S_d0_1_2 := by decide
  h_S_ := by decide

/-- Where the precondition holds, no entry of the state is the positive infinity. -/
theorem ne_top [Facts] (a0 : FVec Ideal S8x1024x128 .f32) (a1 : FVec Ideal S8x1x4096 .f32) (a2 a3 a4 : FVec Ideal S64x128 .f32)
    (a5 a6 : FVec Ideal S128 .f32) (a7 : FVec Ideal S64x64 .f32) (a8 : FVec Ideal S64 .f32) (a9 : FVec Ideal S64x64 .f32) (a10 : FVec Ideal S64 .f32)
    (a11 : FVec Ideal S64x128 .f32) (a12 : FVec Ideal S64 .f32)
    (h : fn a0 a1 a2 a3 a4 a5 a6 a7 a8 a9 a10 a11 a12 = constantI S_ 1 1#1) (i : S8x1x4096.Idx) : a1 i ≠ ⊤ := by
  haveI : Subsingleton S_.Idx := ⟨fun a b => funext fun x => x.elim0⟩
  have h0 := congrFun h (fun x => x.elim0)
  have h1 := Host.reduce_andi_all _ _ _ _ _ h0 i
  intro e
  have htop : Ideal.ofBits .f32 0x7F800000#32 = ⊤ := by simp [Ideal.ofBits, Ideal.ieee]
  have h2 : Ideal.cmp .olt (a1 i) (Ideal.ofBits .f32 0x7F800000#32) = 1#1 := h1
  rw [htop, e] at h2
  simp [Ideal.cmp] at h2

end Cert.Pre_state_below_inf

/-! ## The kernel's run, read -/

namespace Cert.KernelIdeal.Value

open Cert.KernelIdeal Cert.KernelIdeal.Gen Cert.KernelIdeal.Entry Cert.KernelIdeal.Points Cert.KernelIdeal.Arrays

variable (m : (ℓ : Loc nD τ sig) → Buf (Elt Ideal) ℓ) (ρ : Dev nD → PrngReg)

/-- The first result. -/
def out0 (c : Dev nD) : Buf (Elt Ideal) ((c.tc : Thread nD τ).loc main_v44) :=
  transpose S8x1024x64 [0, 2, 1] (yArr m c) transposes_S8x64x1024_S8x1024x64_0_2_1
/-- The second result. -/
def out1 (c : Dev nD) : Buf (Elt Ideal) ((c.tc : Thread nD τ).loc main_v45) :=
  transpose S8x1024x64x64 [0, 3, 1, 2] (sArr m c) transposes_S8x64x64x1024_S8x1024x64x64_0_3_1_2

theorem run (hb : ∀ c, Below m c) : θ_run defs (onTc (τ := τ) (main (F := Ideal))) ⟨m, fun _ => 0, ρ⟩ fun r => ∀ c : Dev nD,
      r.2.mem ((c.tc : Thread nD τ).loc main_v44) = out0 m c
      ∧ r.2.mem ((c.tc : Thread nD τ).loc main_v45) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      ⟨((h.2 c).2 main_v44 (by decide)).trans (tail_44 m c (hb c)), ((h.2 c).2 main_v45 (by decide)).trans (tail_45 m c (hb c)), h.1 c⟩)
    (θ_run_and (Gen.unchanged m ρ) (Gen.run_main m ρ))

end Cert.KernelIdeal.Value

/-! ## The two programs' results are one -/

namespace Cert.Proof.Claims

theorem frame_k : Cert.quiescent_Kernel := fun m ρ _ => Cert.Kernel.Gen.frame m ρ
theorem frame_ki : Cert.quiescent_KernelIdeal := fun m ρ _ => Cert.KernelIdeal.Gen.frame m ρ
theorem frame_kip [hPre_state_below_inf : Cert.Pre_state_below_inf.Facts] : Cert.quiescent_KernelIdeal_pre_state_below_inf := fun m ρ _ => Cert.KernelIdeal.Gen.frame m ρ
theorem frame_ri : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)
theorem frame_rip [hPre_state_below_inf : Cert.Pre_state_below_inf.Facts] : Cert.quiescent_ReferenceIdeal_pre_state_below_inf := fun m ρ _ => frame_ri m ρ trivial

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem eq0 (hP : Cert.ReferenceIdeal.Read.pars m' c = Cert.KernelIdeal.Points.P m c) (hr : Cert.ReferenceIdeal.Read.rows m' c = Cert.KernelIdeal.Points.rows m c)
    (hs : Cert.ReferenceIdeal.Read.st m' c = Cert.KernelIdeal.Points.st m c) : Cert.ReferenceIdeal.Value.res_main_v59 m' c = Cert.KernelIdeal.Value.out0 m c := by
  funext y
  obtain ⟨b, t, i, rfl⟩ : ∃ (b : Fin 8) (t : Fin 1024) (i : Fin 64), y = ix3 b t i := ⟨y 0, y 1, y 2, (ValueIdx.eq_ix3 y).trans (ix3_eq_valueIdx _ _ _).symm⟩
  rw [Cert.ReferenceIdeal.Read.out0_apply, hP, hr, hs]
  refine Eq.symm ((Cert.KernelIdeal.Arrays.val_44 (Cert.KernelIdeal.Arrays.yArr m c) b t i).trans ?_)
  rw [ix3_eq_valueIdx]
  rfl

theorem eq1 (hP : Cert.ReferenceIdeal.Read.pars m' c = Cert.KernelIdeal.Points.P m c) (hr : Cert.ReferenceIdeal.Read.rows m' c = Cert.KernelIdeal.Points.rows m c)
    (hs : Cert.ReferenceIdeal.Read.st m' c = Cert.KernelIdeal.Points.st m c) : Cert.ReferenceIdeal.Value.res_main_v43 m' c = Cert.KernelIdeal.Value.out1 m c := by
  funext y
  obtain ⟨b, t, i, j, rfl⟩ : ∃ (b : Fin 8) (t : Fin 1024) (i j : Fin 64), y = ix4 b t i j := ⟨y 0, y 1, y 2, y 3, (ValueIdx.eq_ix4 y).trans (ix4_eq_valueIdx _ _ _ _).symm⟩
  rw [Cert.ReferenceIdeal.Read.out1_apply, hP, hr, hs]
  refine Eq.symm ((Cert.KernelIdeal.Arrays.val_45 (Cert.KernelIdeal.Arrays.sArr m c) b t i j).trans ?_)
  rw [ix4_eq_valueIdx]
  rfl
end

theorem algebraic [hPre_state_below_inf : Cert.Pre_state_below_inf.Facts] : Cert.algebraic_KernelIdeal_ReferenceIdeal_pre_state_below_inf := by
  intro m ρ m' ρ' hpre hagree
  have hb : ∀ c, Cert.KernelIdeal.Points.Below m c := fun c b i j =>
    Cert.Pre_state_below_inf.ne_top _ _ _ _ _ _ _ _ _ _ _ _ _ (hpre c) _
  refine ⟨fun c => Cert.KernelIdeal.Value.out0 m c, fun c => Cert.KernelIdeal.Value.out1 m c, Cert.KernelIdeal.Value.run m ρ hb, ?_⟩
  refine (θ_run Cert.ReferenceIdeal.defs _ _).mono (fun _ h c => ?_) (Cert.ReferenceIdeal.Value.run (F := Ideal) m' ρ')
  obtain ⟨h0, h1, hk⟩ := h c
  obtain ⟨e0, e1, e2, e3, e4, e5, e6, e7, e8, e9, e10, e11, e12⟩ := hagree c
  have hP : Cert.ReferenceIdeal.Read.pars m' c = Cert.KernelIdeal.Points.P m c := by
    show Row.parsOf _ _ _ _ _ _ _ _ _ _ _ = Row.parsOf _ _ _ _ _ _ _ _ _ _ _
    rw [e2, e3, e4, e5, e6, e7, e8, e9, e10, e11, e12]
  have hr : Cert.ReferenceIdeal.Read.rows m' c = Cert.KernelIdeal.Points.rows m c := by
    funext b
    show Row.rowsOf _ b = Row.rowsOf _ b
    rw [e0]
  have hs : Cert.ReferenceIdeal.Read.st m' c = Cert.KernelIdeal.Points.st m c := by
    funext b
    show Row.stOf _ b = Row.stOf _ b
    rw [e1]
  exact ⟨h0.trans (eq0 m m' c hP hr hs), h1.trans (eq1 m m' c hP hr hs), hk⟩

end Cert.Proof.Claims

end
-- ==== Proof.lean ====
module

public import proofs.«01_k».proof.Defs
public import proofs.«01_k».proof.Proof.Value

@[expose] public section

noncomputable section

namespace Cert.Proof

open Idealize.ShloMosaic Idealize.SL.Sem Cert.Proof.Claims

theorem claim : Cert.Claim := ⟨Cert.Kernel.Gen.facts, Cert.KernelIdeal.Gen.facts, Cert.ReferenceIdeal.Gen.facts, Cert.Pre_state_below_inf.facts,
  frame_k, frame_ki, frame_kip (hPre_state_below_inf := Cert.Pre_state_below_inf.facts), frame_ri,
  frame_rip (hPre_state_below_inf := Cert.Pre_state_below_inf.facts), trivial, algebraic (hPre_state_below_inf := Cert.Pre_state_below_inf.facts)⟩

end Cert.Proof

end
